-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S128x4096 : Shape := ⟨2, ![128, 4096]⟩
abbrev S2x512x8192 : Shape := ⟨3, ![2, 512, 8192]⟩
abbrev S32 : Shape := ⟨1, ![32]⟩
abbrev S2 : Shape := ⟨1, ![2]⟩
abbrev S_ : Shape := ⟨0, ![]⟩
abbrev S1 : Shape := ⟨1, ![1]⟩
abbrev S128x128 : Shape := ⟨2, ![128, 128]⟩
abbrev S1x128x8192 : Shape := ⟨3, ![1, 128, 8192]⟩
abbrev S128x512 : Shape := ⟨2, ![128, 512]⟩
abbrev S1x512x8192 : Shape := ⟨3, ![1, 512, 8192]⟩
abbrev S512x8192 : Shape := ⟨2, ![512, 8192]⟩

abbrev nBuf : Space → Nat
  | .hbm => 3
  | .vmem => 4
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S128x4096, .f32⟩
  | .local _ .vmem, ⟨3, _⟩ => ⟨S2x512x8192, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c128_i32 : BitVec 32 := 128#32
  let v130 : BitVec 32 := Scalar.muli v129 c128_i32
  let c0_i32_133 : BitVec 32 := 0#32
  ![v130.toNat, 0]
def k0_dev32 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_129 : BitVec 32 := 1#32
  let v131 : BitVec 32 := Scalar.muli v129 c1_i32_129
  let v132 : BitVec 32 := Scalar.addi c0_i32_130 v131
  v132.toNat
def k0_dev33 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v139 : BitVec 32 := Scalar.addi v2 c2_i32_134
  let c32_i32_135 : BitVec 32 := 32#32
  let v140 : BitVec 32 := Scalar.remsi v139 c32_i32_135
  let c1_i32_139 : BitVec 32 := 1#32
  let v142 : BitVec 32 := Scalar.muli v140 c1_i32_139
  let v143 : BitVec 32 := Scalar.addi c0_i32_140 v142
  v143.toNat
def k0_dev34 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_143 : BitVec 32 := 3#32
  let v150 : BitVec 32 := Scalar.addi v2 c3_i32_143
  let c32_i32_144 : BitVec 32 := 32#32
  let v151 : BitVec 32 := Scalar.remsi v150 c32_i32_144
  let c1_i32_148 : BitVec 32 := 1#32
  let v153 : BitVec 32 := Scalar.muli v151 c1_i32_148
  let v154 : BitVec 32 := Scalar.addi c0_i32_149 v153
  v154.toNat
def k0_dev35 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_152 : BitVec 32 := 4#32
  let v161 : BitVec 32 := Scalar.addi v2 c4_i32_152
  let c32_i32_153 : BitVec 32 := 32#32
  let v162 : BitVec 32 := Scalar.remsi v161 c32_i32_153
  let c1_i32_157 : BitVec 32 := 1#32
  let v164 : BitVec 32 := Scalar.muli v162 c1_i32_157
  let v165 : BitVec 32 := Scalar.addi c0_i32_158 v164
  v165.toNat
def k0_dev36 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_161 : BitVec 32 := 5#32
  let v172 : BitVec 32 := Scalar.addi v2 c5_i32_161
  let c32_i32_162 : BitVec 32 := 32#32
  let v173 : BitVec 32 := Scalar.remsi v172 c32_i32_162
  let c1_i32_166 : BitVec 32 := 1#32
  let v175 : BitVec 32 := Scalar.muli v173 c1_i32_166
  let v176 : BitVec 32 := Scalar.addi c0_i32_167 v175
  v176.toNat
def k0_dev37 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_170 : BitVec 32 := 6#32
  let v183 : BitVec 32 := Scalar.addi v2 c6_i32_170
  let c32_i32_171 : BitVec 32 := 32#32
  let v184 : BitVec 32 := Scalar.remsi v183 c32_i32_171
  let c1_i32_175 : BitVec 32 := 1#32
  let v186 : BitVec 32 := Scalar.muli v184 c1_i32_175
  let v187 : BitVec 32 := Scalar.addi c0_i32_176 v186
  v187.toNat
def k0_dev38 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_179 : BitVec 32 := 7#32
  let v194 : BitVec 32 := Scalar.addi v2 c7_i32_179
  let c32_i32_180 : BitVec 32 := 32#32
  let v195 : BitVec 32 := Scalar.remsi v194 c32_i32_180
  let c1_i32_184 : BitVec 32 := 1#32
  let v197 : BitVec 32 := Scalar.muli v195 c1_i32_184
  let v198 : BitVec 32 := Scalar.addi c0_i32_185 v197
  v198.toNat
def k0_dev39 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_188 : BitVec 32 := 8#32
  let v205 : BitVec 32 := Scalar.addi v2 c8_i32_188
  let c32_i32_189 : BitVec 32 := 32#32
  let v206 : BitVec 32 := Scalar.remsi v205 c32_i32_189
  let c1_i32_193 : BitVec 32 := 1#32
  let v208 : BitVec 32 := Scalar.muli v206 c1_i32_193
  let v209 : BitVec 32 := Scalar.addi c0_i32_194 v208
  v209.toNat
def k0_dev40 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_197 : BitVec 32 := 9#32
  let v216 : BitVec 32 := Scalar.addi v2 c9_i32_197
  let c32_i32_198 : BitVec 32 := 32#32
  let v217 : BitVec 32 := Scalar.remsi v216 c32_i32_198
  let c1_i32_202 : BitVec 32 := 1#32
  let v219 : BitVec 32 := Scalar.muli v217 c1_i32_202
  let v220 : BitVec 32 := Scalar.addi c0_i32_203 v219
  v220.toNat
def k0_dev41 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_206 : BitVec 32 := 10#32
  let v227 : BitVec 32 := Scalar.addi v2 c10_i32_206
  let c32_i32_207 : BitVec 32 := 32#32
  let v228 : BitVec 32 := Scalar.remsi v227 c32_i32_207
  let c1_i32_211 : BitVec 32 := 1#32
  let v230 : BitVec 32 := Scalar.muli v228 c1_i32_211
  let v231 : BitVec 32 := Scalar.addi c0_i32_212 v230
  v231.toNat
def k0_dev42 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_215 : BitVec 32 := 11#32
  let v238 : BitVec 32 := Scalar.addi v2 c11_i32_215
  let c32_i32_216 : BitVec 32 := 32#32
  let v239 : BitVec 32 := Scalar.remsi v238 c32_i32_216
  let c1_i32_220 : BitVec 32 := 1#32
  let v241 : BitVec 32 := Scalar.muli v239 c1_i32_220
  let v242 : BitVec 32 := Scalar.addi c0_i32_221 v241
  v242.toNat
def k0_dev43 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_224 : BitVec 32 := 12#32
  let v249 : BitVec 32 := Scalar.addi v2 c12_i32_224
  let c32_i32_225 : BitVec 32 := 32#32
  let v250 : BitVec 32 := Scalar.remsi v249 c32_i32_225
  let c1_i32_229 : BitVec 32 := 1#32
  let v252 : BitVec 32 := Scalar.muli v250 c1_i32_229
  let v253 : BitVec 32 := Scalar.addi c0_i32_230 v252
  v253.toNat
def k0_dev44 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_233 : BitVec 32 := 13#32
  let v260 : BitVec 32 := Scalar.addi v2 c13_i32_233
  let c32_i32_234 : BitVec 32 := 32#32
  let v261 : BitVec 32 := Scalar.remsi v260 c32_i32_234
  let c1_i32_238 : BitVec 32 := 1#32
  let v263 : BitVec 32 := Scalar.muli v261 c1_i32_238
  let v264 : BitVec 32 := Scalar.addi c0_i32_239 v263
  v264.toNat
def k0_dev45 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_242 : BitVec 32 := 14#32
  let v271 : BitVec 32 := Scalar.addi v2 c14_i32_242
  let c32_i32_243 : BitVec 32 := 32#32
  let v272 : BitVec 32 := Scalar.remsi v271 c32_i32_243
  let c1_i32_247 : BitVec 32 := 1#32
  let v274 : BitVec 32 := Scalar.muli v272 c1_i32_247
  let v275 : BitVec 32 := Scalar.addi c0_i32_248 v274
  v275.toNat
def k0_dev46 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_251 : BitVec 32 := 15#32
  let v282 : BitVec 32 := Scalar.addi v2 c15_i32_251
  let c32_i32_252 : BitVec 32 := 32#32
  let v283 : BitVec 32 := Scalar.remsi v282 c32_i32_252
  let c1_i32_256 : BitVec 32 := 1#32
  let v285 : BitVec 32 := Scalar.muli v283 c1_i32_256
  let v286 : BitVec 32 := Scalar.addi c0_i32_257 v285
  v286.toNat
def k0_dev47 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_260 : BitVec 32 := 16#32
  let v293 : BitVec 32 := Scalar.addi v2 c16_i32_260
  let c32_i32_261 : BitVec 32 := 32#32
  let v294 : BitVec 32 := Scalar.remsi v293 c32_i32_261
  let c1_i32_265 : BitVec 32 := 1#32
  let v296 : BitVec 32 := Scalar.muli v294 c1_i32_265
  let v297 : BitVec 32 := Scalar.addi c0_i32_266 v296
  v297.toNat
def k0_dev48 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_269 : BitVec 32 := 17#32
  let v304 : BitVec 32 := Scalar.addi v2 c17_i32_269
  let c32_i32_270 : BitVec 32 := 32#32
  let v305 : BitVec 32 := Scalar.remsi v304 c32_i32_270
  let c1_i32_274 : BitVec 32 := 1#32
  let v307 : BitVec 32 := Scalar.muli v305 c1_i32_274
  let v308 : BitVec 32 := Scalar.addi c0_i32_275 v307
  v308.toNat
def k0_dev49 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_278 : BitVec 32 := 18#32
  let v315 : BitVec 32 := Scalar.addi v2 c18_i32_278
  let c32_i32_279 : BitVec 32 := 32#32
  let v316 : BitVec 32 := Scalar.remsi v315 c32_i32_279
  let c1_i32_283 : BitVec 32 := 1#32
  let v318 : BitVec 32 := Scalar.muli v316 c1_i32_283
  let v319 : BitVec 32 := Scalar.addi c0_i32_284 v318
  v319.toNat
def k0_dev50 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_287 : BitVec 32 := 19#32
  let v326 : BitVec 32 := Scalar.addi v2 c19_i32_287
  let c32_i32_288 : BitVec 32 := 32#32
  let v327 : BitVec 32 := Scalar.remsi v326 c32_i32_288
  let c1_i32_292 : BitVec 32 := 1#32
  let v329 : BitVec 32 := Scalar.muli v327 c1_i32_292
  let v330 : BitVec 32 := Scalar.addi c0_i32_293 v329
  v330.toNat
def k0_dev51 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_296 : BitVec 32 := 20#32
  let v337 : BitVec 32 := Scalar.addi v2 c20_i32_296
  let c32_i32_297 : BitVec 32 := 32#32
  let v338 : BitVec 32 := Scalar.remsi v337 c32_i32_297
  let c1_i32_301 : BitVec 32 := 1#32
  let v340 : BitVec 32 := Scalar.muli v338 c1_i32_301
  let v341 : BitVec 32 := Scalar.addi c0_i32_302 v340
  v341.toNat
def k0_dev52 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_305 : BitVec 32 := 21#32
  let v348 : BitVec 32 := Scalar.addi v2 c21_i32_305
  let c32_i32_306 : BitVec 32 := 32#32
  let v349 : BitVec 32 := Scalar.remsi v348 c32_i32_306
  let c1_i32_310 : BitVec 32 := 1#32
  let v351 : BitVec 32 := Scalar.muli v349 c1_i32_310
  let v352 : BitVec 32 := Scalar.addi c0_i32_311 v351
  v352.toNat
def k0_dev53 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_314 : BitVec 32 := 22#32
  let v359 : BitVec 32 := Scalar.addi v2 c22_i32_314
  let c32_i32_315 : BitVec 32 := 32#32
  let v360 : BitVec 32 := Scalar.remsi v359 c32_i32_315
  let c1_i32_319 : BitVec 32 := 1#32
  let v362 : BitVec 32 := Scalar.muli v360 c1_i32_319
  let v363 : BitVec 32 := Scalar.addi c0_i32_320 v362
  v363.toNat
def k0_dev54 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_323 : BitVec 32 := 23#32
  let v370 : BitVec 32 := Scalar.addi v2 c23_i32_323
  let c32_i32_324 : BitVec 32 := 32#32
  let v371 : BitVec 32 := Scalar.remsi v370 c32_i32_324
  let c1_i32_328 : BitVec 32 := 1#32
  let v373 : BitVec 32 := Scalar.muli v371 c1_i32_328
  let v374 : BitVec 32 := Scalar.addi c0_i32_329 v373
  v374.toNat
def k0_dev55 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_332 : BitVec 32 := 24#32
  let v381 : BitVec 32 := Scalar.addi v2 c24_i32_332
  let c32_i32_333 : BitVec 32 := 32#32
  let v382 : BitVec 32 := Scalar.remsi v381 c32_i32_333
  let c1_i32_337 : BitVec 32 := 1#32
  let v384 : BitVec 32 := Scalar.muli v382 c1_i32_337
  let v385 : BitVec 32 := Scalar.addi c0_i32_338 v384
  v385.toNat
def k0_dev56 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_341 : BitVec 32 := 25#32
  let v392 : BitVec 32 := Scalar.addi v2 c25_i32_341
  let c32_i32_342 : BitVec 32 := 32#32
  let v393 : BitVec 32 := Scalar.remsi v392 c32_i32_342
  let c1_i32_346 : BitVec 32 := 1#32
  let v395 : BitVec 32 := Scalar.muli v393 c1_i32_346
  let v396 : BitVec 32 := Scalar.addi c0_i32_347 v395
  v396.toNat
def k0_dev57 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_350 : BitVec 32 := 26#32
  let v403 : BitVec 32 := Scalar.addi v2 c26_i32_350
  let c32_i32_351 : BitVec 32 := 32#32
  let v404 : BitVec 32 := Scalar.remsi v403 c32_i32_351
  let c1_i32_355 : BitVec 32 := 1#32
  let v406 : BitVec 32 := Scalar.muli v404 c1_i32_355
  let v407 : BitVec 32 := Scalar.addi c0_i32_356 v406
  v407.toNat
def k0_dev58 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_359 : BitVec 32 := 27#32
  let v414 : BitVec 32 := Scalar.addi v2 c27_i32_359
  let c32_i32_360 : BitVec 32 := 32#32
  let v415 : BitVec 32 := Scalar.remsi v414 c32_i32_360
  let c1_i32_364 : BitVec 32 := 1#32
  let v417 : BitVec 32 := Scalar.muli v415 c1_i32_364
  let v418 : BitVec 32 := Scalar.addi c0_i32_365 v417
  v418.toNat
def k0_dev59 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_368 : BitVec 32 := 28#32
  let v425 : BitVec 32 := Scalar.addi v2 c28_i32_368
  let c32_i32_369 : BitVec 32 := 32#32
  let v426 : BitVec 32 := Scalar.remsi v425 c32_i32_369
  let c1_i32_373 : BitVec 32 := 1#32
  let v428 : BitVec 32 := Scalar.muli v426 c1_i32_373
  let v429 : BitVec 32 := Scalar.addi c0_i32_374 v428
  v429.toNat
def k0_dev60 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_377 : BitVec 32 := 29#32
  let v436 : BitVec 32 := Scalar.addi v2 c29_i32_377
  let c32_i32_378 : BitVec 32 := 32#32
  let v437 : BitVec 32 := Scalar.remsi v436 c32_i32_378
  let c1_i32_382 : BitVec 32 := 1#32
  let v439 : BitVec 32 := Scalar.muli v437 c1_i32_382
  let v440 : BitVec 32 := Scalar.addi c0_i32_383 v439
  v440.toNat
def k0_dev61 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_386 : BitVec 32 := 30#32
  let v447 : BitVec 32 := Scalar.addi v2 c30_i32_386
  let c32_i32_387 : BitVec 32 := 32#32
  let v448 : BitVec 32 := Scalar.remsi v447 c32_i32_387
  let c1_i32_391 : BitVec 32 := 1#32
  let v450 : BitVec 32 := Scalar.muli v448 c1_i32_391
  let v451 : BitVec 32 := Scalar.addi c0_i32_392 v450
  v451.toNat
def k0_dev62 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_395 : BitVec 32 := 31#32
  let v458 : BitVec 32 := Scalar.addi v2 c31_i32_395
  let c32_i32_396 : BitVec 32 := 32#32
  let v459 : BitVec 32 := Scalar.remsi v458 c32_i32_396
  let c1_i32_400 : BitVec 32 := 1#32
  let v461 : BitVec 32 := Scalar.muli v459 c1_i32_400
  let v462 : BitVec 32 := Scalar.addi c0_i32_401 v461
  v462.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_404 : BitVec 32 := 128#32
  let v469 : BitVec 32 := Scalar.muli v2 c128_i32_404
  let v470 : Index := Scalar.indexCast v469
  let c0 : Index := 0#32
  ![v470.toNat, 0]
def k0_off3 (d0 : Dev nD) (c32_i32_407 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v476 : BitVec 32 := Scalar.addi v2 c32_i32_407
  let c32_i32_408 : BitVec 32 := 32#32
  let v477 : BitVec 32 := Scalar.remsi v476 c32_i32_408
  let c128_i32_409 : BitVec 32 := 128#32
  let v478 : BitVec 32 := Scalar.muli v477 c128_i32_409
  let c0_i32_414 : BitVec 32 := 0#32
  ![v478.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Steps.lean ====
/-
# The kernel's body as steps

The printed body is a straight line of some three hundred effects. It is the unrolling of a few loops: over the
offsets `o = 1 … 31` (signal, send, wait for the send), over the eight groups of four offsets (copy four row blocks of
the weights in, wait for them, wait for four blocks of `x`, multiply, accumulate). This module states each step once,
at a symbolic offset or group, writes the body as the loops over them, and shows that the printed body is that
program, by unfolding.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

set_option backward.proofsInPublic true

noncomputable section

namespace Cert.Steps

open Cert.KernelIdeal Cert.KernelIdeal.Gen
open Idealize.ShloMosaic Idealize.ShloMosaic.TcCoe
open Idealize.SL.Sem

variable {F : FTy → Type} [FloatOps F]

/-- A program of the kernel's TensorCore. -/
abbrev TcProg (F : FTy → Type) [FloatOps F] (α : Type) : Type 1 := Prog (TpuEff nD τ sig (Elt F) Λ₀ .tc) α

/-- `f` at each of the `n` indices from `k` on, in order. -/
def stepsFrom {N : ℕ} (f : Fin N → TcProg F PUnit) : (n k : ℕ) → k + n ≤ N → TcProg F PUnit
  | 0, _, _ => .ret ⟨⟩
  | n + 1, k, h => f ⟨k, by omega⟩ >>= fun _ => stepsFrom f n (k + 1) (by omega)

/-! ## The buffers and semaphores -/

/-- The device's columns of `x`, as staged. -/
abbrev xM : Memref sig .tc .vmem S4096x128 .f32 := Memref.whole cc0_stg0_0
/-- The weights. -/
abbrev wM : Memref sig .tc .hbm S4096x8192 .f32 := Memref.whole main_arg1
/-- The device's rows of the result, before they are written out. -/
abbrev oM : Memref sig .tc .vmem S128x8192 .f32 := Memref.whole cc0_stg1_0
/-- The device's rows of `x`, assembled from every device's columns. -/
abbrev rM : Memref sig .tc .vmem S128x4096 .f32 := Memref.whole cc0_scratch0
/-- The two slots the weights' row blocks are copied to, four blocks a slot. -/
abbrev bM : Memref sig .tc .vmem S2x512x8192 .f32 := Memref.whole cc0_scratch1

/-- The barrier semaphore. -/
abbrev barS : Sem sig := (SemArray.scalar (sig.barrier 0 rfl) : Sems sig S_).sem

theorem inb_sem (o : Fin 32) : ∀ a, (![o.val] : Fin 1 → Nat) a + S1.size a ≤ S32.size a := by revert o; decide
theorem inb_wsem (g : Fin 8) : ∀ a, (![g.val % 2] : Fin 1 → Nat) a + S1.size a ≤ S2.size a := by revert g; decide
theorem inb_col (o : Fin 32) : ∀ a, (![0, 128 * o.val] : Fin 2 → Nat) a + S128x128.size a ≤ S128x4096.size a := by
  revert o; decide +kernel
theorem inb_grp (g : Fin 8) : ∀ a, (![0, 512 * g.val] : Fin 2 → Nat) a + S128x512.size a ≤ S128x4096.size a := by
  revert g; decide +kernel
theorem inb_slot (g : Fin 8) : ∀ a, (![g.val % 2, 0, 0] : Fin 3 → Nat) a + S1x512x8192.size a ≤ S2x512x8192.size a := by
  revert g; decide +kernel
theorem inb_piece (g : Fin 8) (i : Fin 4) :
    ∀ a, (![g.val % 2, 128 * i.val, 0] : Fin 3 → Nat) a + S1x128x8192.size a ≤ S2x512x8192.size a := by
  revert g i; decide +kernel
theorem inb_xrows (d : Dev nD) (o : Fin 32) :
    ∀ a, (k0_off1 d (BitVec.ofNat 32 o.val)) a + S128x128.size a ≤ S4096x128.size a := by
  revert d o; decide +kernel
theorem inb_wrows (d : Dev nD) (g : Fin 8) (i : Fin 4) :
    ∀ a, (k0_off3 d (BitVec.ofNat 32 (32 - (4 * g.val + i.val)))) a + S128x8192.size a ≤ S4096x8192.size a := by
  revert d g i; decide +kernel

/-- The send semaphore of offset `o`. -/
abbrev sendS (o : Fin 32) : DmaSem sig :=
  (SemArray.squeeze (SemArray.slice (cc0_scratch2 : DmaSems sig S32) (Rect.unit (s := S32) ![o.val] S1.size (inb_sem o))) S_ squeezes_S1_S_).sem
/-- The receive semaphore of offset `o`. -/
abbrev recvS (o : Fin 32) : DmaSem sig :=
  (SemArray.squeeze (SemArray.slice (cc0_scratch3 : DmaSems sig S32) (Rect.unit (s := S32) ![o.val] S1.size (inb_sem o))) S_ squeezes_S1_S_).sem
/-- The semaphore group `g`'s copies complete on: one for the even groups, one for the odd. -/
abbrev wS (g : Fin 8) : DmaSem sig :=
  (SemArray.squeeze (SemArray.slice (cc0_scratch4 : DmaSems sig S2) (Rect.unit (s := S2) ![g.val % 2] S1.size (inb_wsem g))) S_ squeezes_S1_S_).sem

/-- The rows of the staged columns that go to the device `o` further on. -/
abbrev xRows (d : Dev nD) (o : Fin 32) : Memref sig .tc .vmem S128x128 .f32 :=
  xM.slice (Rect.unit (s := S4096x128) (k0_off1 d (BitVec.ofNat 32 o.val)) S128x128.size (inb_xrows d o)) (fun _ => rfl)
/-- The columns the block from `o` devices back lands in. -/
abbrev rCols (o : Fin 32) : Memref sig .tc .vmem S128x128 .f32 :=
  rM.slice (Rect.unit (s := S128x4096) ![0, 128 * o.val] S128x128.size (inb_col o)) (fun _ => rfl)
/-- The rows of the weights that meet the block of `x` from `4 g + i` devices back. -/
abbrev wRows (d : Dev nD) (g : Fin 8) (i : Fin 4) : Memref sig .tc .hbm S128x8192 .f32 :=
  wM.slice (Rect.unit (s := S4096x8192) (k0_off3 d (BitVec.ofNat 32 (32 - (4 * g.val + i.val)))) S128x8192.size (inb_wrows d g i)) (fun _ => rfl)
/-- The part of a slot those rows are copied to. -/
abbrev bPiece (g : Fin 8) (i : Fin 4) : Memref sig .tc .vmem S128x8192 .f32 :=
  (bM.slice (Rect.unit (s := S2x512x8192) ![g.val % 2, 128 * i.val, 0] S1x128x8192.size (inb_piece g i)) (fun _ => rfl)).squeeze S128x8192 squeezes_S1x128x8192_S128x8192

/-- The index of the device `o` further on, as the kernel computes it. -/
def devAt (d : Dev nD) (o : Fin 32) : ℕ :=
  (Scalar.addi 0#32 (Scalar.muli (Scalar.remsi (Scalar.addi (Scalar.remsi (Scalar.divsi (Dev.word d) 1#32) 32#32) (BitVec.ofNat 32 o.val)) 32#32) 1#32)).toNat
theorem devAt_lt (d : Dev nD) (o : Fin 32) : devAt d o < nD := by revert d o; decide +kernel
/-- The device `o` further on, as the kernel computes it. -/
def devFwd (d : Dev nD) (o : Fin 32) : Dev nD := ⟨devAt d o, devAt_lt d o⟩

/-! ## The steps -/

/-- Signal the barrier of the device `o` further on. -/
def sigStep (d : Dev nD) (o : Fin 32) : TcProg F PUnit := semSignalWord (devFwd d o) barS 1#32
/-- Wait for the other devices' signals. -/
def barWait : TcProg F PUnit := semWaitWord barS 31#32
/-- Send the device `o` further on its rows of the columns held here. -/
def sendStep (d : Dev nD) (o : Fin 32) : TcProg F PUnit :=
  Prog.lift (.enqueueDma (xRows d o) (.remote (Dev.tc (devFwd d o)) (rCols o) (.dma (sendS o))) (.dma (recvS o))
    (View.wordExact_bits rfl) (View.wordExact_bits rfl) ⟨⟨rfl, Or.inl rfl⟩, trivial⟩)
/-- Copy the device's own rows of its columns in place. -/
def ownStep (d : Dev nD) : TcProg F PUnit :=
  Prog.lift (.load xM (Rect.unit (s := S4096x128) (k0_off2 d) S128x128.size (k0_off2_inb d)).toLoadRect (View.loadsAt_vmem h_S128x128)) >>= fun (v : Vec F S128x128 .f32) =>
  Prog.lift (.load rM (Rect.unit (s := S128x4096) ![0, 0] S128x128.size inb_S128x4096_S128x128_0_0).toLoadRect (View.loadsAt_vmem h_S128x128)) >>= fun (_ : Vec F S128x128 .f32) =>
  Prog.lift (.store rM (Rect.unit (s := S128x4096) ![0, 0] S128x128.size inb_S128x4096_S128x128_0_0) (k0_pay1 v) Finset.univ (View.stores_vmem_bits_univ h_S128x128 rfl) (.inl rfl))
/-- Start the copy of block `i` of group `g`'s weights. -/
def fetchStep (d : Dev nD) (g : Fin 8) (i : Fin 4) : TcProg F PUnit :=
  Prog.lift (.enqueueDma (wRows d g i) (.here (bPiece g i)) (.dma (wS g)) (View.wordExact_bits rfl) ((View.wordExact_bits rfl).reshape _ _) ⟨Or.inl rfl, trivial⟩)
/-- Wait for one block's worth of group `g`'s copies. -/
def fetchWait (d : Dev nD) (g : Fin 8) (i : Fin 4) : TcProg F PUnit :=
  Prog.lift (.waitDma2 (wS g) (wRows d g i) (bPiece g i) (View.wordExact_bits rfl) ((View.wordExact_bits rfl).reshape _ _))
/-- Wait for the block from `o` devices back. -/
def recvWait (o : Fin 32) : TcProg F PUnit :=
  Prog.lift (.waitDma2 (recvS o) (rCols o) (rCols o) (View.wordExact_bits rfl) (View.wordExact_bits rfl))
/-- Wait until the send of offset `o` has left. -/
def sendWait (d : Dev nD) (o : Fin 32) : TcProg F PUnit :=
  Prog.lift (.waitDma2 (sendS o) (rCols o) (xRows d o) (View.wordExact_bits rfl) (View.wordExact_bits rfl))

/-- Group `g`'s columns of the assembled rows. -/
def loadX (g : Fin 8) : TcProg F (Vec F S128x512 .f32) :=
  Prog.lift (.load rM (Rect.unit (s := S128x4096) ![0, 512 * g.val] S128x512.size (inb_grp g)).toLoadRect (View.loadsAt_vmem h_S128x512))
/-- Group `g`'s slot of weights. -/
def loadW (g : Fin 8) : TcProg F (Vec F S1x512x8192 .f32) :=
  Prog.lift (.load bM (Rect.unit (s := S2x512x8192) ![g.val % 2, 0, 0] S1x512x8192.size (inb_slot g)).toLoadRect (View.loadsAt_vmem h_S1x512x8192))
/-- The accumulated rows of the result. -/
def loadO : TcProg F (Vec F S128x8192 .f32) :=
  Prog.lift (.load oM (Rect.unit (s := S128x8192) ![0, 0] S128x8192.size inb_S128x8192_S128x8192_0_0).toLoadRect (View.loadsAt_vmem h_S128x8192))
/-- Store the rows of the result. -/
def storeO (v : Vec F S128x8192 .f32) : TcProg F PUnit :=
  Prog.lift (.store oM (Rect.unit (s := S128x8192) ![0, 0] S128x8192.size inb_S128x8192_S128x8192_0_0) v Finset.univ (View.stores_vmem_bits_univ h_S128x8192 rfl) (.inl rfl))

/-- The first group: the product is the result so far. -/
def firstDot : TcProg F PUnit :=
  loadX 0 >>= fun a => loadW 0 >>= fun b => loadO >>= fun _ => storeO (k0_pay2 a b)
/-- A later group: the product is added to the result so far. -/
def midDot (g : Fin 8) : TcProg F PUnit :=
  loadX g >>= fun a => loadW g >>= fun b => loadO >>= fun c => loadO >>= fun _ => storeO (k0_pay3 a b c)
/-- The last group: the sum, and then the larger of it and zero. -/
def lastDot : TcProg F PUnit :=
  loadX 7 >>= fun a => loadW 7 >>= fun b => loadO >>= fun c => loadO >>= fun _ => storeO (k0_pay11 (k0_pay3 a b c) k0_pay10)

/-- Group `g`'s copies, -/
def fetch (d : Dev nD) (g : Fin 8) : TcProg F PUnit := stepsFrom (fetchStep d g) 4 0 (by omega)
/-- the waits for them, -/
def fetchWaits (d : Dev nD) (g : Fin 8) : TcProg F PUnit := stepsFrom (fetchWait d g) 4 0 (by omega)
/-- and what a middle group does up to its product's being added. -/
def mid (d : Dev nD) (g : Fin 8) : TcProg F PUnit :=
  fetchWaits d g >>= fun _ => stepsFrom recvWait 4 (4 * g.val) (by omega) >>= fun _ => midDot g
/-- Middle group `g`, and the copies of the group two further on, whose slot it has freed. -/
def midFetch (d : Dev nD) (g : Fin 8) : TcProg F PUnit := mid d g >>= fun _ => fetch d (g + 2)

/-- The body on device `d`. -/
def body (d : Dev nD) : TcProg F PUnit :=
  stepsFrom (sigStep d) 31 1 (by omega) >>= fun _ =>
  barWait >>= fun _ =>
  stepsFrom (sendStep d) 31 1 (by omega) >>= fun _ =>
  ownStep d >>= fun _ =>
  fetch d 0 >>= fun _ =>
  fetch d 1 >>= fun _ =>
  fetchWaits d 0 >>= fun _ =>
  stepsFrom recvWait 3 1 (by omega) >>= fun _ =>
  firstDot >>= fun _ =>
  fetch d 2 >>= fun _ =>
  stepsFrom (midFetch d) 5 1 (by omega) >>= fun _ =>
  mid d 6 >>= fun _ =>
  fetchWaits d 7 >>= fun _ =>
  stepsFrom recvWait 4 28 (by omega) >>= fun _ =>
  lastDot >>= fun _ =>
  stepsFrom (sendWait d) 31 1 (by omega)

set_option maxRecDepth 65536 in
/-- The printed body reads which device it runs on and is then `body`. -/
theorem body_eq :
    cc0_body (F := F) xM (Memref.isWhole_whole _) wM (Memref.isWhole_whole _) oM (Memref.isWhole_whole _) rM (Memref.isWhole_whole _)
        bM (Memref.isWhole_whole _) cc0_scratch2 cc0_scratch3 cc0_scratch4
      = (Prog.lift .deviceId >>= fun d => body d) := by
  chain_rfl

end Cert.Steps

end
-- ==== Proof.Offsets.lean ====
/-
# Devices and offsets

The devices sit on a ring of 32. The kernel names a partner by how far it is: `fwd c o` is the device `o` further on
than `c`, `bwd c o` the one `o` back. This module relates them to each other and to the addresses the kernel computes.
-/
module

public import proofs.«01_k».proof.Proof.Steps
public import Idealize.ShloMosaic.Lib.ValueIdxCore

@[expose] public section

set_option backward.proofsInPublic true

noncomputable section

namespace Cert.Offsets

open Cert.KernelIdeal Cert.KernelIdeal.Gen Cert.Steps
open Idealize.ShloMosaic

/-- The device `o` further on. -/
def fwd (c : Dev nD) (o : Fin 32) : Dev nD := ⟨(c.val + o.val) % 32, Nat.mod_lt _ (by decide)⟩
/-- The device `o` back. -/
def bwd (c : Dev nD) (o : Fin 32) : Dev nD := ⟨(c.val + (32 - o.val)) % 32, Nat.mod_lt _ (by decide)⟩
/-- The offset that leads back. -/
def neg (o : Fin 32) : Fin 32 := ⟨(32 - o.val) % 32, Nat.mod_lt _ (by decide)⟩
/-- The offset of block `i` of group `g`. -/
def off (g : Fin 8) (i : Fin 4) : Fin 32 := ⟨4 * g.val + i.val, by omega⟩

theorem val_lt (c : Dev nD) : c.val < 32 := c.isLt

theorem bwd_fwd (c : Dev nD) (o : Fin 32) : bwd (fwd c o) o = c :=
  Fin.ext (by have := val_lt c; simp only [bwd, fwd]; omega)
theorem fwd_bwd (c : Dev nD) (o : Fin 32) : fwd (bwd c o) o = c :=
  Fin.ext (by have := val_lt c; simp only [bwd, fwd]; omega)
theorem bwd_neg (c : Dev nD) (o : Fin 32) : bwd c (neg o) = fwd c o :=
  Fin.ext (by have := val_lt c; simp only [bwd, fwd, neg]; omega)
theorem fwd_neg (c : Dev nD) (o : Fin 32) : fwd c (neg o) = bwd c o :=
  Fin.ext (by have := val_lt c; simp only [bwd, fwd, neg]; omega)
theorem neg_neg (o : Fin 32) : neg (neg o) = o :=
  Fin.ext (by simp only [neg]; omega)
theorem neg_eq_zero {o : Fin 32} : neg o = 0 ↔ o = 0 := by revert o; decide
theorem fwd_zero (c : Dev nD) : fwd c 0 = c := Fin.ext (by have := val_lt c; simp only [fwd]; omega)
theorem bwd_zero (c : Dev nD) : bwd c 0 = c := Fin.ext (by have := val_lt c; simp only [bwd]; omega)
theorem fwd_inj {c : Dev nD} {o o' : Fin 32} (h : fwd c o = fwd c o') : o = o' :=
  Fin.ext (by have := congrArg Fin.val h; have := val_lt c; simp only [fwd] at *; omega)
theorem bwd_inj {c : Dev nD} {o o' : Fin 32} (h : bwd c o = bwd c o') : o = o' :=
  Fin.ext (by have := congrArg Fin.val h; have := val_lt c; simp only [bwd] at *; omega)

/-- Every device is some offset back from `c`. -/
theorem exists_bwd (c d : Dev nD) : ∃ o, bwd c o = d :=
  ⟨⟨(c.val + (32 - d.val)) % 32, Nat.mod_lt _ (by decide)⟩, Fin.ext (by have := val_lt c; have := val_lt d; simp only [bwd]; omega)⟩
theorem exists_fwd (c d : Dev nD) : ∃ o, fwd c o = d :=
  ⟨⟨(d.val + (32 - c.val)) % 32, Nat.mod_lt _ (by decide)⟩, Fin.ext (by have := val_lt c; have := val_lt d; simp only [fwd]; omega)⟩

/-- Going `o` further on permutes the devices. -/
def fwdEquiv (o : Fin 32) : Dev nD ≃ Dev nD := ⟨fun c => fwd c o, fun c => bwd c o, fun c => bwd_fwd c o, fun c => fwd_bwd c o⟩
/-- Turning offsets round permutes them. -/
def negEquiv : Fin 32 ≃ Fin 32 := ⟨neg, neg, neg_neg, neg_neg⟩
/-- An offset is a block of a group. -/
def offEquiv : Fin 8 × Fin 4 ≃ Fin 32 where
  toFun gi := off gi.1 gi.2
  invFun o := (⟨o.val / 4, by omega⟩, ⟨o.val % 4, by omega⟩)
  left_inv gi := Prod.ext (Fin.ext (by simp only [off]; omega)) (Fin.ext (by simp only [off]; omega))
  right_inv o := Fin.ext (by simp only [off]; omega)

theorem devFwd_eq (c : Dev nD) (o : Fin 32) : devFwd c o = fwd c o := by revert c o; decide +kernel

/-- The rows the send of offset `o` starts at; -/
theorem off1_eq (c : Dev nD) (o : Fin 32) : k0_off1 c (BitVec.ofNat 32 o.val) = ![128 * (fwd c o).val, 0] := by
  revert c o; decide +kernel
/-- the device's own rows; -/
theorem off2_eq (c : Dev nD) : k0_off2 c = ![128 * c.val, 0] := by revert c; decide +kernel
/-- the rows of the weights that block `i` of group `g` multiplies. -/
theorem off3_eq (c : Dev nD) (g : Fin 8) (i : Fin 4) :
    k0_off3 c (BitVec.ofNat 32 (32 - (4 * g.val + i.val))) = ![128 * (bwd c (off g i)).val, 0] := by
  revert c g i; decide +kernel

end Cert.Offsets

end
-- ==== Proof.Contents.lean ====
/-
# Which elements, and what they hold

The buffers are worked on in blocks: the staged columns of `x` and the weights by rows, 128 to a device; the assembled
rows by columns, 128 to an offset; the two slots of weights by rows, 128 to a block. Here each block is a set of
indices, each view the kernel moves data through is matched with its block, and the contents the blocks end up with are
written out by index, with the fact that a transfer into a block leaves exactly those.
-/
module

public import proofs.«01_k».proof.Proof.Offsets
public import Idealize.ShloMosaic.Lib.ValueLayout

@[expose] public section

set_option backward.proofsInPublic true

noncomputable section

namespace Cert.Contents

open Cert.KernelIdeal Cert.KernelIdeal.Gen Cert.Steps Cert.Offsets
open Idealize.ShloMosaic Idealize.ShloMosaic.TcCoe
open Idealize.ShloMosaic.ValueIdx

variable {F : FTy → Type} [FloatOps F]

/-! ## The blocks -/

/-- The rows of the staged columns of `x` that go to device `d`; -/
def xSet (d : Dev nD) : Finset S4096x128.Idx := Finset.univ.filter fun i => (i 0).val / 128 = d.val
/-- the columns of the assembled rows that come from `o` devices back; -/
def rSet (o : Fin 32) : Finset S128x4096.Idx := Finset.univ.filter fun i => (i 1).val / 128 = o.val
/-- the rows of the weights that multiply device `d`'s columns of `x`; -/
def wSet (d : Dev nD) : Finset S4096x8192.Idx := Finset.univ.filter fun i => (i 0).val / 128 = d.val
/-- block `i` of slot `s`. -/
def bSet (s : Fin 2) (i : Fin 4) : Finset S2x512x8192.Idx :=
  Finset.univ.filter fun j => (j 0).val = s.val ∧ (j 1).val / 128 = i.val

/-- The slot group `g` uses. -/
def par (g : Fin 8) : Fin 2 := ⟨g.val % 2, Nat.mod_lt _ (by decide)⟩

theorem xSet_disjoint {d d' : Dev nD} (h : d ≠ d') : Disjoint (xSet d) (xSet d') :=
  Finset.disjoint_left.mpr fun i hi hi' => h (Fin.ext ((Finset.mem_filter.mp hi).2.symm.trans (Finset.mem_filter.mp hi').2))
theorem rSet_disjoint {o o' : Fin 32} (h : o ≠ o') : Disjoint (rSet o) (rSet o') :=
  Finset.disjoint_left.mpr fun i hi hi' => h (Fin.ext ((Finset.mem_filter.mp hi).2.symm.trans (Finset.mem_filter.mp hi').2))
theorem wSet_disjoint {d d' : Dev nD} (h : d ≠ d') : Disjoint (wSet d) (wSet d') :=
  Finset.disjoint_left.mpr fun i hi hi' => h (Fin.ext ((Finset.mem_filter.mp hi).2.symm.trans (Finset.mem_filter.mp hi').2))
theorem bSet_disjoint {p p' : Fin 2 × Fin 4} (h : p ≠ p') : Disjoint (bSet p.1 p.2) (bSet p'.1 p'.2) :=
  Finset.disjoint_left.mpr fun i hi hi' => h (Prod.ext
    (Fin.ext ((Finset.mem_filter.mp hi).2.1.symm.trans (Finset.mem_filter.mp hi').2.1))
    (Fin.ext ((Finset.mem_filter.mp hi).2.2.symm.trans (Finset.mem_filter.mp hi').2.2)))

/-- The blocks of rows of the staged columns are all of them, counted by offset from `c`; -/
theorem xSet_cover (c : Dev nD) : Finset.univ.biUnion (fun o => xSet (fwd c o)) = Finset.univ := by
  refine Finset.eq_univ_iff_forall.mpr fun i => ?_
  have hi : (i 0).val < 4096 := (i 0).isLt
  obtain ⟨o, ho⟩ := exists_fwd c ⟨(i 0).val / 128, show _ < 32 by omega⟩
  exact Finset.mem_biUnion.mpr ⟨o, Finset.mem_univ _, Finset.mem_filter.mpr ⟨Finset.mem_univ _, by rw [ho]⟩⟩
/-- the blocks of columns of the assembled rows are all of them; -/
theorem rSet_cover : Finset.univ.biUnion rSet = Finset.univ := by
  refine Finset.eq_univ_iff_forall.mpr fun i => ?_
  have hi : (i 1).val < 4096 := (i 1).isLt
  exact Finset.mem_biUnion.mpr ⟨⟨(i 1).val / 128, by omega⟩, Finset.mem_univ _, Finset.mem_filter.mpr ⟨Finset.mem_univ _, rfl⟩⟩
/-- the blocks of rows of the weights are all of them, counted by group and block; -/
theorem wSet_cover (c : Dev nD) : Finset.univ.biUnion (fun gi : Fin 8 × Fin 4 => wSet (bwd c (off gi.1 gi.2))) = Finset.univ := by
  refine Finset.eq_univ_iff_forall.mpr fun i => ?_
  have hi : (i 0).val < 4096 := (i 0).isLt
  obtain ⟨o, ho⟩ := exists_bwd c ⟨(i 0).val / 128, show _ < 32 by omega⟩
  obtain ⟨gi, rfl⟩ := offEquiv.surjective o
  exact Finset.mem_biUnion.mpr ⟨gi, Finset.mem_univ _, Finset.mem_filter.mpr ⟨Finset.mem_univ _, by
    rw [show off gi.1 gi.2 = offEquiv gi from rfl, ho]⟩⟩
/-- and the blocks of the slots are all of them. -/
theorem bSet_cover : Finset.univ.biUnion (fun si : Fin 2 × Fin 4 => bSet si.1 si.2) = Finset.univ := by
  refine Finset.eq_univ_iff_forall.mpr fun j => ?_
  have h0 : (j 0).val < 2 := (j 0).isLt
  have h1 : (j 1).val < 512 := (j 1).isLt
  exact Finset.mem_biUnion.mpr ⟨(⟨(j 0).val, h0⟩, ⟨(j 1).val / 128, by omega⟩), Finset.mem_univ _,
    Finset.mem_filter.mpr ⟨Finset.mem_univ _, rfl, rfl⟩⟩

/-! ## The views' blocks -/

theorem xRows_set (c : Dev nD) (o : Fin 32) : (xRows c o).view.set = xSet (fwd c o) := by
  show ((View.whole cc0_stg0_0).slice _).set = _
  rw [View.set_slice_whole]
  ext i
  refine Rect.mem_set_unit.trans ?_
  rw [off1_eq, xSet, Finset.mem_filter]
  refine Iff.trans Fin.forall_fin_two ?_
  have h1 : (i 1).val < 128 := (i 1).isLt
  show ((128 * (fwd c o).val ≤ (i 0).val ∧ (i 0).val < 128 * (fwd c o).val + 128) ∧ (0 ≤ (i 1).val ∧ (i 1).val < 0 + 128)) ↔ _
  simp only [Finset.mem_univ, true_and]; omega

theorem rCols_set (o : Fin 32) : (rCols o).view.set = rSet o := by
  show ((View.whole cc0_scratch0).slice _).set = _
  rw [View.set_slice_whole]
  ext i
  refine Rect.mem_set_unit.trans ?_
  rw [rSet, Finset.mem_filter]
  refine Iff.trans Fin.forall_fin_two ?_
  have h0 : (i 0).val < 128 := (i 0).isLt
  show ((0 ≤ (i 0).val ∧ (i 0).val < 0 + 128) ∧ (128 * o.val ≤ (i 1).val ∧ (i 1).val < 128 * o.val + 128)) ↔ _
  simp only [Finset.mem_univ, true_and]; omega

theorem wRows_set (c : Dev nD) (g : Fin 8) (i : Fin 4) : (wRows c g i).view.set = wSet (bwd c (off g i)) := by
  show ((View.whole main_arg1).slice _).set = _
  rw [View.set_slice_whole]
  ext j
  refine Rect.mem_set_unit.trans ?_
  rw [off3_eq, wSet, Finset.mem_filter]
  refine Iff.trans Fin.forall_fin_two ?_
  have h1 : (j 1).val < 8192 := (j 1).isLt
  show ((128 * (bwd c (off g i)).val ≤ (j 0).val ∧ (j 0).val < 128 * (bwd c (off g i)).val + 128)
    ∧ (0 ≤ (j 1).val ∧ (j 1).val < 0 + 8192)) ↔ _
  simp only [Finset.mem_univ, true_and]; omega

theorem bPiece_set (g : Fin 8) (i : Fin 4) : (bPiece g i).view.set = bSet (par g) i := by
  refine (View.set_reshape _ _).trans ?_
  show ((View.whole cc0_scratch1).slice _).set = _
  rw [View.set_slice_whole]
  ext j
  refine Rect.mem_set_unit.trans ?_
  rw [bSet, Finset.mem_filter]
  refine Iff.trans (Fin.forall_fin_succ.trans (and_congr_right' Fin.forall_fin_two)) ?_
  have h2 : (j 2).val < 8192 := (j 2).isLt
  show ((g.val % 2 ≤ (j 0).val ∧ (j 0).val < g.val % 2 + 1) ∧ (128 * i.val ≤ (j 1).val ∧ (j 1).val < 128 * i.val + 128)
    ∧ (0 ≤ (j 2).val ∧ (j 2).val < 0 + 8192)) ↔ (_ ∧ (j 0).val = g.val % 2 ∧ (j 1).val / 128 = i.val)
  simp only [Finset.mem_univ, true_and]; omega

/-! ## The contents -/

/-- The rows of `x` device `c` assembles, by offset: column block `o` is the device `o` back's columns. -/
def xRow (xs : Dev nD → Vec F S4096x128 .f32) (c : Dev nD) : Vec F S128x4096 .f32 := fun j =>
  xs (bwd c ⟨(j 1).val / 128, by have : (j 1).val < 4096 := (j 1).isLt; omega⟩)
    (ix2 ⟨128 * c.val + (j 0).val, by have : (j 0).val < 128 := (j 0).isLt; have := val_lt c; omega⟩
      ⟨(j 1).val % 128, Nat.mod_lt _ (by decide)⟩)

/-- The weights group `g`'s slot receives on device `c`: block `i` is the rows for the device `4 g + i` back. -/
def wBuf (w : Vec F S4096x8192 .f32) (c : Dev nD) (g : Fin 8) : Vec F S2x512x8192 .f32 := fun j =>
  w (ix2 ⟨128 * (bwd c (off g ⟨(j 1).val / 128, by have : (j 1).val < 512 := (j 1).isLt; omega⟩)).val + (j 1).val % 128,
      by have := val_lt (bwd c (off g ⟨(j 1).val / 128, by have : (j 1).val < 512 := (j 1).isLt; omega⟩)); omega⟩
    ⟨(j 2).val, (j 2).isLt⟩)

/-- Group `g`'s columns of the assembled rows. -/
def xGrp (xs : Dev nD → Vec F S4096x128 .f32) (c : Dev nD) (g : Fin 8) : Vec F S128x512 .f32 := fun j =>
  xRow xs c (ix2 ⟨(j 0).val, (j 0).isLt⟩ ⟨512 * g.val + (j 1).val, by have : (j 1).val < 512 := (j 1).isLt; omega⟩)
/-- Group `g`'s weights. -/
def wGrp (w : Vec F S4096x8192 .f32) (c : Dev nD) (g : Fin 8) : Vec F S1x512x8192 .f32 := fun j =>
  wBuf w c g (ix3 ⟨g.val % 2, Nat.mod_lt _ (by decide)⟩ ⟨(j 1).val, (j 1).isLt⟩ ⟨(j 2).val, (j 2).isLt⟩)

/-- The result on device `c` once the groups `0 … k` are added up; -/
def acc (xs : Dev nD → Vec F S4096x128 .f32) (w : Vec F S4096x8192 .f32) (c : Dev nD) : ℕ → Vec F S128x8192 .f32
  | 0 => k0_pay2 (xGrp xs c 0) (wGrp w c 0)
  | k + 1 => k0_pay3 (xGrp xs c (Fin.ofNat 8 (k + 1))) (wGrp w c (Fin.ofNat 8 (k + 1))) (acc xs w c k)
/-- and in the end. -/
def outVal (xs : Dev nD → Vec F S4096x128 .f32) (w : Vec F S4096x8192 .f32) (c : Dev nD) : Vec F S128x8192 .f32 :=
  k0_pay11 (acc xs w c 7) k0_pay10

/-! ## What the transfers leave -/

/-- Device `c`'s send of offset `o` leaves the device `o` further on with its column block `o`. -/
theorem landed_x (xs : Dev nD → Vec F S4096x128 .f32) (c : Dev nD) (o : Fin 32) (fd : Vec F S128x4096 .f32) :
    ∀ i ∈ (rCols o).view.set, (rCols o).view.write (Elt F) fd ((xRows c o).view.read (Elt F) (xs c)) Finset.univ i
      = xRow xs (fwd c o) i := by
  intro i hi
  obtain ⟨j, -, rfl⟩ := Finset.mem_map.mp hi
  rw [View.write_emb_of_mem _ _ (Finset.mem_univ j), View.read_apply]
  refine (cast_eq _ _).trans ((cast_eq _ _).trans ?_)
  have h1 : (j 1).val < 128 := (j 1).isLt
  have hd : bwd (fwd c o) (⟨(((rCols o).view.emb j : S128x4096.Idx) 1).val / 128,
      by have : (((rCols o).view.emb j : S128x4096.Idx) 1).val < 4096 := (((rCols o).view.emb j : S128x4096.Idx) 1).isLt; omega⟩ : Fin 32) = c := by
    exact (congrArg (bwd _) (Fin.ext (show (128 * o.val + 1 * (j 1).val) / 128 = o.val by omega))).trans (bwd_fwd c o)
  unfold xRow
  rw [hd]
  refine congrArg (xs c) (funext fun a => Fin.ext ?_)
  match a with
  | ⟨0, _⟩ =>
    show k0_off1 c (BitVec.ofNat 32 o.val) 0 + 1 * (j 0).val = 128 * (fwd c o).val + (0 + 1 * (j 0).val)
    rw [off1_eq]; show 128 * (fwd c o).val + 1 * (j 0).val = _; omega
  | ⟨1, _⟩ =>
    show k0_off1 c (BitVec.ofNat 32 o.val) 1 + 1 * (j 1).val = (128 * o.val + 1 * (j 1).val) % 128
    rw [off1_eq]; show 0 + 1 * (j 1).val = _; omega

/-- The copy of block `i` of group `g` leaves its slot with those rows of the weights. -/
theorem landed_w (w : Vec F S4096x8192 .f32) (c : Dev nD) (g : Fin 8) (i : Fin 4) (fd : Vec F S2x512x8192 .f32) :
    ∀ k ∈ (bPiece g i).view.set, (bPiece g i).view.write (Elt F) fd ((wRows c g i).view.read (Elt F) w) Finset.univ k
      = wBuf w c g k := by
  intro k hk
  obtain ⟨j, -, rfl⟩ := Finset.mem_map.mp hk
  rw [View.write_emb_of_mem _ _ (Finset.mem_univ j), View.read_apply]
  refine (cast_eq _ _).trans ((cast_eq _ _).trans ?_)
  have h0 : (j 0).val < 128 := (j 0).isLt
  have he : ((bPiece g i).view.emb j : S2x512x8192.Idx)
      = (Rect.unit (s := S2x512x8192) ![g.val % 2, 128 * i.val, 0] S1x128x8192.size (inb_piece g i)).emb (ix3 ⟨0, Nat.one_pos⟩ (j 0) (j 1)) := by
    show (Rect.unit (s := S2x512x8192) ![g.val % 2, 128 * i.val, 0] S1x128x8192.size (inb_piece g i)).emb (Shape.reshapeEquiv _ j) = _
    congr 1
    exact (congrArg _ (eq_ix2 j)).trans (reshapeEquiv_ix2_1ab _ _ _)
  unfold wBuf
  rw [he]
  have hd : off g (⟨(128 * i.val + 1 * (j 0).val) / 128, by omega⟩ : Fin 4) = off g i :=
    congrArg (off g) (Fin.ext (show (128 * i.val + 1 * (j 0).val) / 128 = i.val by omega))
  refine congrArg w (funext fun a => Fin.ext ?_)
  match a with
  | ⟨0, _⟩ =>
    show k0_off3 c (BitVec.ofNat 32 (32 - (4 * g.val + i.val))) 0 + 1 * (j 0).val
      = 128 * (bwd c (off g ⟨(128 * i.val + 1 * (j 0).val) / 128, _⟩)).val + (128 * i.val + 1 * (j 0).val) % 128
    rw [off3_eq, hd]; show 128 * (bwd c (off g i)).val + 1 * (j 0).val = _; omega
  | ⟨1, _⟩ =>
    show k0_off3 c (BitVec.ofNat 32 (32 - (4 * g.val + i.val))) 1 + 1 * (j 1).val = 0 + 1 * (j 1).val
    rw [off3_eq]; rfl

/-- The device's own rows of its columns, copied, are column block 0. -/
theorem landed_own (xs : Dev nD → Vec F S4096x128 .f32) (c : Dev nD) (fd : Vec F S128x4096 .f32) :
    ∀ i ∈ rSet 0, (rM.access (Rect.unit (s := S128x4096) ![0, 0] S128x128.size inb_S128x4096_S128x128_0_0) : View sig .tc _ _ _).write (Elt F) fd
        (k0_pay1 (xM.view.readAt (Elt F) (Rect.unit (s := S4096x128) (k0_off2 c) S128x128.size (k0_off2_inb c)).toLoadRect (xs c))) Finset.univ i
      = xRow xs c i := by
  intro i hi
  have hi1 : (i 1).val / 128 = 0 := (Finset.mem_filter.mp hi).2
  have h0 : (i 0).val < 128 := (i 0).isLt
  have h1 : (i 1).val < 128 := by omega
  obtain ⟨j, rfl⟩ : ∃ j : S128x128.Idx, (rM.access (Rect.unit (s := S128x4096) ![0, 0] S128x128.size inb_S128x4096_S128x128_0_0) : View sig .tc _ _ _).emb j = i :=
    ⟨ix2 ⟨(i 0).val, h0⟩ ⟨(i 1).val, h1⟩, funext fun a => Fin.ext (by
      match a with
      | ⟨0, _⟩ => show 0 + 1 * (i 0).val = (i 0).val; omega
      | ⟨1, _⟩ => show 0 + 1 * (i 1).val = (i 1).val; omega)⟩
  rw [View.write_emb_of_mem _ _ (Finset.mem_univ j)]
  refine (cast_eq _ _).trans ?_
  unfold k0_pay1
  simp only [shapeCast_self]
  rw [View.readAt_apply, View.read_apply]
  refine (cast_eq _ _).trans ?_
  have hj1 : (j 1).val < 128 := (j 1).isLt
  have hd : bwd c (⟨(0 + 1 * (j 1).val) / 128, by omega⟩ : Fin 32) = c := by
    rw [show (⟨(0 + 1 * (j 1).val) / 128, _⟩ : Fin 32) = 0 from Fin.ext (show (0 + 1 * (j 1).val) / 128 = 0 by omega), bwd_zero]
  refine Eq.trans ?_ (congrArg (fun d => xs d _) hd).symm
  refine congrArg (xs c) (funext fun a => Fin.ext ?_)
  match a with
  | ⟨0, _⟩ =>
    show k0_off2 c 0 + 1 * (j 0).val = 128 * c.val + (0 + 1 * (j 0).val)
    rw [off2_eq]; show 128 * c.val + 1 * (j 0).val = _; omega
  | ⟨1, _⟩ =>
    show k0_off2 c 1 + 1 * (j 1).val = (0 + 1 * (j 1).val) % 128
    rw [off2_eq]; show 0 + 1 * (j 1).val = _; omega

/-! ## What the loads read -/

/-- The load of group `g`'s columns. -/
theorem read_xGrp (xs : Dev nD → Vec F S4096x128 .f32) (c : Dev nD) (g : Fin 8) :
    rM.view.readAt (Elt F) (Rect.unit (s := S128x4096) ![0, 512 * g.val] S128x512.size (inb_grp g)).toLoadRect (xRow xs c) = xGrp xs c g := by
  funext j
  rw [View.readAt_apply, View.read_apply]
  refine (cast_eq _ _).trans (congrArg (xRow xs c) (funext fun a => Fin.ext ?_))
  match a with
  | ⟨0, _⟩ => show 0 + 1 * (j 0).val = (j 0).val; omega
  | ⟨1, _⟩ => show 512 * g.val + 1 * (j 1).val = 512 * g.val + (j 1).val; omega

/-- The load of group `g`'s slot. -/
theorem read_wGrp (w : Vec F S4096x8192 .f32) (c : Dev nD) (g : Fin 8) :
    bM.view.readAt (Elt F) (Rect.unit (s := S2x512x8192) ![g.val % 2, 0, 0] S1x512x8192.size (inb_slot g)).toLoadRect (wBuf w c g) = wGrp w c g := by
  funext j
  rw [View.readAt_apply, View.read_apply]
  have h0 : (j 0).val < 1 := (j 0).isLt
  refine (cast_eq _ _).trans (congrArg (wBuf w c g) (funext fun a => Fin.ext ?_))
  match a with
  | ⟨0, _⟩ => show g.val % 2 + 1 * (j 0).val = g.val % 2; omega
  | ⟨1, _⟩ => show 0 + 1 * (j 1).val = (j 1).val; omega
  | ⟨2, _⟩ => show 0 + 1 * (j 2).val = (j 2).val; omega

/-- Group `g`'s columns lie in its four column blocks; -/
theorem grp_subset (g : Fin 8) :
    rM.view.setOn (Rect.unit (s := S128x4096) ![0, 512 * g.val] S128x512.size (inb_grp g)).toLoadRect.set
      ⊆ (Finset.univ : Finset (Fin 4)).biUnion fun i => rSet (off g i) := by
  intro i hi
  obtain ⟨j, hj, rfl⟩ := Finset.mem_map.mp hi
  have h1 : 512 * g.val ≤ (j 1).val ∧ (j 1).val < 512 * g.val + 512 := Rect.mem_set_unit.mp hj 1
  exact Finset.mem_biUnion.mpr ⟨⟨(j 1).val / 128 - 4 * g.val, by omega⟩, Finset.mem_univ _, Finset.mem_filter.mpr ⟨Finset.mem_univ _,
    show (j 1).val / 128 = 4 * g.val + ((j 1).val / 128 - 4 * g.val) by omega⟩⟩

/-- its slot in the slot's four blocks. -/
theorem slot_subset (g : Fin 8) :
    bM.view.setOn (Rect.unit (s := S2x512x8192) ![g.val % 2, 0, 0] S1x512x8192.size (inb_slot g)).toLoadRect.set
      ⊆ (Finset.univ : Finset (Fin 4)).biUnion fun i => bSet (par g) i := by
  intro i hi
  obtain ⟨j, hj, rfl⟩ := Finset.mem_map.mp hi
  have h0 : g.val % 2 ≤ (j 0).val ∧ (j 0).val < g.val % 2 + 1 := Rect.mem_set_unit.mp hj 0
  have h1 : (j 1).val < 512 := (j 1).isLt
  exact Finset.mem_biUnion.mpr ⟨⟨(j 1).val / 128, by omega⟩, Finset.mem_univ _, Finset.mem_filter.mpr ⟨Finset.mem_univ _,
    show (j 0).val = g.val % 2 by omega, rfl⟩⟩

/-- The device's own rows of its columns are the block that goes to itself, -/
theorem own_subset (c : Dev nD) :
    xM.view.setOn (Rect.unit (s := S4096x128) (k0_off2 c) S128x128.size (k0_off2_inb c)).toLoadRect.set ⊆ xSet (fwd c 0) := by
  intro i hi
  obtain ⟨j, hj, rfl⟩ := Finset.mem_map.mp hi
  have h0 := Rect.mem_set_unit.mp hj 0
  rw [off2_eq] at h0
  have h0' : 128 * c.val ≤ (j 0).val ∧ (j 0).val < 128 * c.val + 128 := h0
  exact Finset.mem_filter.mpr ⟨Finset.mem_univ _, show (j 0).val / 128 = (fwd c 0).val by rw [fwd_zero]; omega⟩

/-- and land in column block 0. -/
theorem own_cols_subset :
    rM.view.setOn (Rect.unit (s := S128x4096) ![0, 0] S128x128.size inb_S128x4096_S128x128_0_0).toLoadRect.set ⊆ rSet 0 := by
  intro i hi
  obtain ⟨j, hj, rfl⟩ := Finset.mem_map.mp hi
  have h1 : 0 ≤ (j 1).val ∧ (j 1).val < 0 + 128 := Rect.mem_set_unit.mp hj 1
  exact Finset.mem_filter.mpr ⟨Finset.mem_univ _, show (j 1).val / 128 = 0 by omega⟩

end Cert.Contents

end
-- ==== Proof.Schedule.lean ====
/-
# The protocol

Every wait of the kernel is answered by signals or transfers of known senders. This module states, for each semaphore
of each device, who raises it, by how much and what the raise hands over:

* the barrier of device `c` is signalled once by every other device; the one `o` further on hands over column block `o`
  of its assembled rows, which `c` is to fill;
* the receive semaphore `o` of `c` is raised once, by the device `o` back, and hands `c` its column block `o`, filled;
* the send semaphore `o` of `c` is raised once, by its own send, and hands back the rows sent;
* a semaphore of the weights is raised four times a round for four rounds, once per block copied, and hands over the
  block of the slot, filled, and the rows it was copied from.
-/
module

public import proofs.«01_k».proof.Proof.Contents
public import Idealize.ShloMosaic.Lib.Pipeline.Launch
public import Idealize.ShloMosaic.Lib.Pipeline.Kit
public import Idealize.ShloMosaic.Lib.Tactic

@[expose] public section

set_option backward.proofsInPublic true

noncomputable section

namespace Cert.Schedule

open Cert.KernelIdeal Cert.KernelIdeal.Gen Cert.Steps Cert.Offsets Cert.Contents
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: duties are named by a number below 32. -/
abbrev UB : Type := URounds (GSem nD τ sig) (Fin 32)
/-- Beside it the pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (xs : Dev nD → Vec F S4096x128 .f32) (ws : Dev nD → Vec F S4096x8192 .f32)

/-! ## The cells -/

abbrev barCell (c : Dev nD) : GSem nD τ sig := ((c : Thread nD τ), .reg barS)
abbrev sendCell (c : Dev nD) (o : Fin 32) : GSem nD τ sig := ((c : Thread nD τ), .dma (sendS o))
abbrev recvCell (c : Dev nD) (o : Fin 32) : GSem nD τ sig := ((c : Thread nD τ), .dma (recvS o))
abbrev wCell (c : Dev nD) (g : Fin 8) : GSem nD τ sig := ((c : Thread nD τ), .dma (wS g))

/-- What a semaphore is for. -/
inductive Role where
  | bar
  | send (o : Fin 32)
  | recv (o : Fin 32)
  | wgt (s : Fin 2)
  | other

/-- Each semaphore's use, by its number. -/
def role : SemLoc sig → Role
  | .reg _ => .bar
  | .dma q => if q.val < 2 then .other
      else if q.val < 34 then .send (Fin.ofNat 32 (q.val - 2))
      else if q.val < 66 then .recv (Fin.ofNat 32 (q.val - 34))
      else .wgt (Fin.ofNat 2 (q.val - 66))

theorem sendS_val (o : Fin 32) : (sendS o).val = 2 + o.val := by revert o; decide +kernel
theorem recvS_val (o : Fin 32) : (recvS o).val = 34 + o.val := by revert o; decide +kernel
theorem wS_val (g : Fin 8) : (wS g).val = 66 + g.val % 2 := by revert g; decide +kernel

theorem role_bar : role (.reg barS) = .bar := rfl
theorem role_send (o : Fin 32) : role (.dma (sendS o)) = .send o := by
  unfold role; simp only [sendS_val]
  rw [if_neg (by omega), if_pos (by omega)]
  exact congrArg _ (Fin.ext (show (2 + o.val - 2) % 32 = o.val by omega))
theorem role_recv (o : Fin 32) : role (.dma (recvS o)) = .recv o := by
  unfold role; simp only [recvS_val]
  rw [if_neg (by omega), if_neg (by omega), if_pos (by omega)]
  exact congrArg _ (Fin.ext (show (34 + o.val - 34) % 32 = o.val by omega))
theorem role_w (g : Fin 8) : role (.dma (wS g)) = .wgt (par g) := by
  unfold role; simp only [wS_val]
  rw [if_neg (by omega), if_neg (by omega), if_neg (by omega)]
  exact congrArg _ (Fin.ext (show (66 + g.val % 2 - 66) % 2 = g.val % 2 by omega))

/-! ## What is handed over -/

/-- What a block of `x` transferred counts for on its semaphores. -/
def NX : ℕ := (rCols 0).view.dmaCredit
/-- What a block of the weights does. -/
def NW : ℕ := (bPiece 0 0).view.dmaCredit

theorem NX_pos : 0 < NX := View.dmaCredit_pos _ (by decide)
theorem NW_pos : 0 < NW := View.dmaCredit_pos _ (by decide)
theorem rCols_credit (o : Fin 32) : (rCols o).view.dmaCredit = NX := rfl
theorem xRows_credit (c : Dev nD) (o : Fin 32) : (xRows c o).view.dmaCredit = NX := rfl
theorem bPiece_credit (g : Fin 8) (i : Fin 4) : (bPiece g i).view.dmaCredit = NW := rfl

/-- The rows of device `c`'s columns that go `o` further on. -/
def xPts (c : Dev nD) (o : Fin 32) : sProp 𝕄 := ((c : Thread nD τ).loc cc0_stg0_0) ↦[xSet (fwd c o)]{fullShare} xs c
/-- Column block `o` of device `c`'s assembled rows, holding `f`. -/
def rPts (c : Dev nD) (o : Fin 32) (f : Vec F S128x4096 .f32) : sProp 𝕄 := ((c : Thread nD τ).loc cc0_scratch0) ↦[rSet o]{fullShare} f
/-- The rows of the weights block `i` of group `g` multiplies, on device `c`. -/
def wPts (c : Dev nD) (g : Fin 8) (i : Fin 4) : sProp 𝕄 := ((c : Thread nD τ).loc main_arg1) ↦[wSet (bwd c (off g i))]{fullShare} ws c
/-- Block `i` of slot `s` of device `c`, holding `f`. -/
def bPts (c : Dev nD) (s : Fin 2) (i : Fin 4) (f : Vec F S2x512x8192 .f32) : sProp 𝕄 := ((c : Thread nD τ).loc cc0_scratch1) ↦[bSet s i]{fullShare} f

/-- What the device `o` further on hands `c` with its signal; -/
def barPay (c : Dev nD) (o : Fin 32) : sProp 𝕄 := iprop(∃ f, rPts (F := F) (fwd c o) o f)
/-- what the copy of block `i` of group `g` hands over. -/
def wPay (c : Dev nD) (g : Fin 8) (i : Fin 4) : sProp 𝕄 := iprop(bPts c (par g) i (wBuf (ws c) c g) ∗ wPts ws c g i)

instance xPts_storable (c : Dev nD) (o) : BI.Storable (upEmb : UEmb _ 𝕄) (xPts (F := F) xs c o) := by unfold xPts; infer_instance
instance rPts_storable (c : Dev nD) (o f) : BI.Storable (upEmb : UEmb _ 𝕄) (rPts (F := F) c o f) := by unfold rPts; infer_instance
instance wPts_storable (c : Dev nD) (g i) : BI.Storable (upEmb : UEmb _ 𝕄) (wPts (F := F) ws c g i) := by unfold wPts; infer_instance
instance bPts_storable (c : Dev nD) (s i f) : BI.Storable (upEmb : UEmb _ 𝕄) (bPts (F := F) c s i f) := by unfold bPts; infer_instance

/-- The group whose copies round `r` of slot `s` takes. -/
def grp (r : ℕ) (s : Fin 2) : Fin 8 := Fin.ofNat 8 (2 * r + s.val)
/-- A block number as a duty's name, -/
def dutyOf (i : Fin 4) : Fin 32 := ⟨i.val, by omega⟩
/-- and back. -/
def blockOf (d : Fin 32) : Fin 4 := Fin.ofNat 4 d.val
theorem blockOf_dutyOf (i : Fin 4) : blockOf (dutyOf i) = i := by revert i; decide
theorem dutyOf_injective : Function.Injective dutyOf := fun i j h => by
  rw [← blockOf_dutyOf i, h, blockOf_dutyOf]
/-- The four copies of a round. -/
def wDuties : Finset (Fin 32) := Finset.univ.map ⟨dutyOf, dutyOf_injective⟩
theorem grp_par (g : Fin 8) : grp (g.val / 2) (par g) = g := by revert g; decide

/-- The protocol, by a semaphore's role and device. -/
def dutiesOf (r : ℕ) : Role → Finset (Fin 32)
  | .bar => if r = 0 then Finset.univ.erase 0 else ∅
  | .send o => if r = 0 ∧ o ≠ 0 then {0} else ∅
  | .recv o => if r = 0 ∧ o ≠ 0 then {0} else ∅
  | .wgt _ => if r < 4 then wDuties else ∅
  | .other => ∅
def amountOf : Role → ℕ
  | .bar => 1
  | .send _ => NX
  | .recv _ => NX
  | .wgt _ => NW
  | .other => 1
def payloadOf (c : Dev nD) (r : ℕ) (d : Fin 32) : Role → sProp 𝕄
  | .bar => barPay c d
  | .send o => xPts xs c o
  | .recv o => rPts c o (xRow xs c)
  | .wgt s => wPay ws c (grp r s) (blockOf d)
  | .other => iprop(emp)

/-- The protocol. -/
def sched : Rounds.Schedule (GSem nD τ sig) (Fin 32) 𝕄 where
  duties g r := dutiesOf r (role g.2)
  unitless _ := False
  amount g _ _ := amountOf (role g.2)
  payload g r d := payloadOf xs ws g.1.1 r d (role g.2)
  amount_pos g _ _ _ := by
    show 0 < amountOf (role g.2)
    cases role g.2 <;> first | exact Nat.one_pos | exact NX_pos | exact NW_pos

instance sched_payload_storable (g : GSem nD τ sig) (r : ℕ) (d : Fin 32) :
    BI.Storable (upEmb : UEmb _ 𝕄) ((sched (F := F) xs ws).payload g r d) := by
  show BI.Storable upEmb (payloadOf xs ws g.1.1 r d (role g.2))
  cases role g.2 <;> unfold payloadOf <;> (try unfold barPay) <;> (try unfold wPay) <;> infer_instance

section Facts
variable (c : Dev nD)

theorem duties_bar : (sched (F := F) xs ws).duties (barCell c) 0 = Finset.univ.erase 0 := rfl
theorem duties_send {o : Fin 32} (h : o ≠ 0) : (sched (F := F) xs ws).duties (sendCell c o) 0 = {0} := by
  show dutiesOf 0 (role (.dma (sendS o))) = _
  rw [role_send]; exact if_pos ⟨rfl, h⟩
theorem duties_recv {o : Fin 32} (h : o ≠ 0) : (sched (F := F) xs ws).duties (recvCell c o) 0 = {0} := by
  show dutiesOf 0 (role (.dma (recvS o))) = _
  rw [role_recv]; exact if_pos ⟨rfl, h⟩
theorem duties_w (g : Fin 8) : (sched (F := F) xs ws).duties (wCell c g) (g.val / 2) = wDuties := by
  show dutiesOf _ (role (.dma (wS g))) = _
  rw [role_w]; exact if_pos (by omega)

theorem later_bar : ∀ r, 1 ≤ r → (sched (F := F) xs ws).duties (barCell c) r = ∅ := fun r hr => if_neg (by omega)
theorem later_send (o : Fin 32) : ∀ r, 1 ≤ r → (sched (F := F) xs ws).duties (sendCell c o) r = ∅ := fun r hr => by
  show dutiesOf r (role (.dma (sendS o))) = _
  rw [role_send]; exact if_neg (by omega)
theorem later_recv (o : Fin 32) : ∀ r, 1 ≤ r → (sched (F := F) xs ws).duties (recvCell c o) r = ∅ := fun r hr => by
  show dutiesOf r (role (.dma (recvS o))) = _
  rw [role_recv]; exact if_neg (by omega)
theorem later_w (g : Fin 8) : ∀ r, 4 ≤ r → (sched (F := F) xs ws).duties (wCell c g) r = ∅ := fun r hr => by
  show dutiesOf r (role (.dma (wS g))) = _
  rw [role_w]; exact if_neg (by omega)
theorem never_send : ∀ r, 0 ≤ r → (sched (F := F) xs ws).duties (sendCell c 0) r = ∅ := fun r _ => by
  show dutiesOf r (role (.dma (sendS 0))) = _
  rw [role_send]; exact if_neg (fun h => h.2 rfl)
theorem never_recv : ∀ r, 0 ≤ r → (sched (F := F) xs ws).duties (recvCell c 0) r = ∅ := fun r _ => by
  show dutiesOf r (role (.dma (recvS 0))) = _
  rw [role_recv]; exact if_neg (fun h => h.2 rfl)

theorem amount_bar (r d) : (sched (F := F) xs ws).amount (barCell c) r d = 1 := rfl
theorem amount_send (o : Fin 32) (r d) : (sched (F := F) xs ws).amount (sendCell c o) r d = NX := by
  show amountOf (role (.dma (sendS o))) = _
  rw [role_send]; rfl
theorem amount_recv (o : Fin 32) (r d) : (sched (F := F) xs ws).amount (recvCell c o) r d = NX := by
  show amountOf (role (.dma (recvS o))) = _
  rw [role_recv]; rfl
theorem amount_w (g : Fin 8) (r d) : (sched (F := F) xs ws).amount (wCell c g) r d = NW := by
  show amountOf (role (.dma (wS g))) = _
  rw [role_w]; rfl

theorem expect_bar : (sched (F := F) xs ws).expect (barCell c) 0 = 31 := by
  unfold Rounds.Schedule.expect Rounds.Schedule.amountOf
  rw [duties_bar, Finset.sum_congr rfl fun d _ => amount_bar xs ws c 0 d]; rfl
theorem expect_send {o : Fin 32} (h : o ≠ 0) : (sched (F := F) xs ws).expect (sendCell c o) 0 = NX := by
  unfold Rounds.Schedule.expect Rounds.Schedule.amountOf; rw [duties_send xs ws c h, Finset.sum_singleton, amount_send]
theorem expect_recv {o : Fin 32} (h : o ≠ 0) : (sched (F := F) xs ws).expect (recvCell c o) 0 = NX := by
  unfold Rounds.Schedule.expect Rounds.Schedule.amountOf; rw [duties_recv xs ws c h, Finset.sum_singleton, amount_recv]
theorem expect_w (g : Fin 8) : (sched (F := F) xs ws).expect (wCell c g) (g.val / 2) = 4 * NW := by
  unfold Rounds.Schedule.expect Rounds.Schedule.amountOf
  rw [duties_w, Finset.sum_congr rfl fun d _ => amount_w xs ws c g _ d, Finset.sum_const, smul_eq_mul]; rfl

theorem payload_bar (d : Fin 32) : (sched (F := F) xs ws).payload (barCell c) 0 d = barPay c d := rfl
theorem payload_send (o d : Fin 32) : (sched (F := F) xs ws).payload (sendCell c o) 0 d = xPts xs c o := by
  show payloadOf xs ws c 0 d (role (.dma (sendS o))) = _
  rw [role_send]; rfl
theorem payload_recv (o d : Fin 32) : (sched (F := F) xs ws).payload (recvCell c o) 0 d = rPts c o (xRow xs c) := by
  show payloadOf xs ws c 0 d (role (.dma (recvS o))) = _
  rw [role_recv]; rfl
theorem payload_w (g : Fin 8) (d : Fin 32) : (sched (F := F) xs ws).payload (wCell c g) (g.val / 2) d = wPay ws c g (blockOf d) := by
  show payloadOf xs ws c _ d (role (.dma (wS g))) = _
  rw [role_w]; show wPay ws c (grp _ _) _ = _; rw [grp_par]

end Facts

/-! ## What each device owes at the start, and the order of the waits -/

/-- Device `c`'s debt to the barriers from offset `k` on, -/
def owedBar (c : Dev nD) (k : ℕ) : CellTallies nD τ sig Unit :=
  ∑ o ∈ (Finset.univ : Finset (Fin 32)).filter (k ≤ ·.val), tallyAt (barCell (fwd c o)) () 1
/-- and to the receive semaphores. -/
def owedRecv (c : Dev nD) (k : ℕ) : CellTallies nD τ sig Unit :=
  ∑ o ∈ (Finset.univ : Finset (Fin 32)).filter (k ≤ ·.val), tallyAt (recvCell (fwd c o) o) () NX
/-- All of it. -/
def O₀ (c : Dev nD) : CellTallies nD τ sig Unit := owedBar c 1 + owedRecv c 1

theorem above_succ (k : ℕ) (hk : k < 32) : (Finset.univ : Finset (Fin 32)).filter (k ≤ ·.val)
    = insert ⟨k, hk⟩ (Finset.univ.filter (k + 1 ≤ ·.val)) := by
  ext o; simp only [Finset.mem_filter, Finset.mem_insert, Finset.mem_univ, true_and, Fin.ext_iff]; omega

theorem owedBar_succ (c : Dev nD) (o : Fin 32) : owedBar c o.val = owedBar c (o.val + 1) + tallyAt (barCell (fwd c o)) () 1 := by
  unfold owedBar
  rw [above_succ o.val o.isLt, Finset.sum_insert (by simp), add_comm]
theorem owedRecv_succ (c : Dev nD) (o : Fin 32) : owedRecv c o.val = owedRecv c (o.val + 1) + tallyAt (recvCell (fwd c o) o) () NX := by
  unfold owedRecv
  rw [above_succ o.val o.isLt, Finset.sum_insert (by simp), add_comm]
theorem owedBar_end (c : Dev nD) : owedBar c 32 = 0 := by
  unfold owedBar; rw [Finset.filter_false_of_mem (fun o _ => by omega), Finset.sum_empty]
theorem owedRecv_end (c : Dev nD) : owedRecv c 32 = 0 := by
  unfold owedRecv; rw [Finset.filter_false_of_mem (fun o _ => by omega), Finset.sum_empty]

def L (g : GSem nD τ sig) : Finset Unit := if g.1.2 = .tc then {()} else ∅
/-- Barriers come before receive semaphores, and every other semaphore before both. -/
def lvRole : Role → ℕ
  | .bar => 1
  | .recv _ => 2
  | _ => 0
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl

theorem owedRecv_pos {c : Dev nD} {k : ℕ} {g : GSem nD τ sig} {u : Unit} (h : 0 < owedRecv c k g u) :
    ∃ d o, g = recvCell d o := by
  unfold owedRecv at h
  rw [Finset.sum_apply, Finsupp.finset_sum_apply] at h
  obtain ⟨o, -, ho⟩ := Finset.exists_ne_zero_of_sum_ne_zero h.ne'
  rw [tallyAt_apply] at ho
  exact ⟨fwd c o, o, (ite_ne_right_iff.mp ho).1.1⟩
theorem owedBar_pos {c : Dev nD} {k : ℕ} {g : GSem nD τ sig} {u : Unit} (h : 0 < owedBar c k g u) :
    ∃ d, g = barCell d := by
  unfold owedBar at h
  rw [Finset.sum_apply, Finsupp.finset_sum_apply] at h
  obtain ⟨o, -, ho⟩ := Finset.exists_ne_zero_of_sum_ne_zero h.ne'
  rw [tallyAt_apply] at ho
  exact ⟨fwd c o, (ite_ne_right_iff.mp ho).1.1⟩

theorem lv_recv (d : Dev nD) (o : Fin 32) : lv (recvCell d o) () = 2 := by unfold lv; rw [role_recv]; rfl
theorem lv_bar (d : Dev nD) : lv (barCell d) () = 1 := rfl

/-- At its barrier wait a device owes receive semaphores only. -/
theorem mayWait_bar (c : Dev nD) : (levAts L lv : sProp 𝕄) ⊢ MayWait (c : Thread nD τ) (.reg barS) () (owedRecv c 1) :=
  MayOwe.of_cut (L := L) (lev := lv) 1 (fun p hp => by rw [Finset.mem_singleton.mp hp, L_tc]; exact Finset.mem_singleton_self _)
    (fun g u hg => by obtain ⟨d, o, rfl⟩ := owedRecv_pos hg; rw [L_tc]; exact Finset.mem_singleton_self _)
    (fun p hp => by rw [Finset.mem_singleton.mp hp]; exact le_of_eq (lv_bar c))
    (fun g u hg => by obtain ⟨d, o, rfl⟩ := owedRecv_pos hg; rw [lv_recv]; decide)

/-- A staging semaphore may be waited for at the start and at the end. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · have hpos {g : GSem nD τ sig} {u : Unit} (hg : 0 < O₀ c g u) : (∃ d, g = barCell d) ∨ ∃ d o, g = recvCell d o := by
      unfold O₀ at hg
      rw [Pi.add_apply, Finsupp.add_apply] at hg
      rcases Nat.add_pos_iff_pos_or_pos.mp hg with h | h
      · exact .inl (owedBar_pos h)
      · exact .inr (owedRecv_pos h)
    refine MayOwe.of_cut (L := L) (lev := lv) 0 (fun p hp => by rw [Finset.mem_singleton.mp hp, L_tc]; exact Finset.mem_singleton_self _)
      (fun g u hg => by rcases hpos hg with ⟨d, rfl⟩ | ⟨d, o, rfl⟩ <;> exact Finset.mem_singleton_self _)
      (fun p hp => by rw [Finset.mem_singleton.mp hp]; unfold lv; rw [hq]; exact le_rfl)
      (fun g u hg => by
        rcases hpos hg with ⟨d, rfl⟩ | ⟨d, o, rfl⟩
        · rw [lv_bar]; decide
        · rw [lv_recv]; decide)
  · rw [MayWait_zero]; iintro -; iempintro

end Cert.Schedule

end
-- ==== Proof.Loops.lean ====
/-
# Running steps in order

How the steps' specifications compose: one step after another, and a loop of steps, each taking its own resources `A o`
to `B o` and moving a common state from `R o` to `R (o + 1)`. Then the records of the protocol's cells, which every
device keeps.
-/
module

public import proofs.«01_k».proof.Proof.Schedule

@[expose] public section

set_option backward.proofsInPublic true

noncomputable section

namespace Cert.Loops

open Cert.KernelIdeal Cert.KernelIdeal.Gen Cert.Steps Cert.Offsets Cert.Contents Cert.Schedule
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` is safe and ends in `Q`. -/
abbrev runs {α : Type} (c : Dev nD) (p : TcProg F α) (Q : α → sProp 𝕄) : sProp 𝕄 :=
  wp frame (wpE (defs₀ (F := F)) 𝒱₀ (c : Thread nD τ) none) Set.univ p Q

/-- One step, and the rest from what it leaves. -/
theorem seq {α β : Type} {c : Dev nD} {p : TcProg F α} {k : α → TcProg F β} {A : sProp 𝕄} {B : α → sProp 𝕄} {Q : β → sProp 𝕄}
    (h : A ⊢ runs c p B) : A ⊢ iprop((∀ a, B a -∗ runs c (k a) Q) -∗ runs c (p >>= k) Q) := by
  rw [show runs c (p >>= k) Q = runs c p (fun a => runs c (k a) Q) from wp_bind _ _ _ p k Q]
  exact h.trans (wp_wand _ _ _)

/-- A family, member by member. -/
theorem each {I : Type} {s : Finset I} {Φ Ψ : I → sProp 𝕄} (h : ∀ i ∈ s, Φ i ⊢ Ψ i) : bigSep s Φ ⊢ bigSep s Ψ := bigSep_mono h

/-- The `n` indices from `k` on. -/
def seg (N k n : ℕ) : Finset (Fin N) := Finset.univ.filter fun v => k ≤ v.val ∧ v.val < k + n

theorem mem_seg {N k n : ℕ} {v : Fin N} : v ∈ seg N k n ↔ k ≤ v.val ∧ v.val < k + n := by
  unfold seg; rw [Finset.mem_filter]; exact ⟨fun h => h.2, fun h => ⟨Finset.mem_univ _, h⟩⟩

theorem seg_zero (N k : ℕ) : seg N k 0 = ∅ := Finset.filter_false_of_mem fun v _ => by omega
theorem seg_succ {N k n : ℕ} (h : k < N) : seg N k (n + 1) = insert ⟨k, h⟩ (seg N (k + 1) n) := by
  ext v; simp only [mem_seg, Finset.mem_insert, Fin.ext_iff]; omega
theorem not_mem_seg {N k n : ℕ} (h : k < N) : (⟨k, h⟩ : Fin N) ∉ seg N (k + 1) n := by
  simp only [mem_seg]; omega
theorem seg_all (N : ℕ) : seg N 0 N = Finset.univ := Finset.filter_true_of_mem fun v _ => by omega

theorem bigSep_seg_succ {N k n : ℕ} (h : k < N) (Φ : Fin N → sProp 𝕄) :
    bigSep (seg N k (n + 1)) Φ = iprop(Φ ⟨k, h⟩ ∗ bigSep (seg N (k + 1) n) Φ) := by
  rw [seg_succ h, bigSep_insert (not_mem_seg h)]; rfl

/-- All but the first. -/
theorem bigSep_univ_head {N : ℕ} (Φ : Fin (N + 1) → sProp 𝕄) :
    bigSep Finset.univ Φ = iprop(Φ 0 ∗ bigSep (seg (N + 1) 1 N) Φ) := by
  rw [← seg_all, bigSep_seg_succ (Nat.succ_pos N)]; rfl

/-- A run of indices in two. -/
theorem bigSep_seg_append {N : ℕ} (k n n' : ℕ) (Φ : Fin N → sProp 𝕄) :
    bigSep (seg N k (n + n')) Φ = iprop(bigSep (seg N k n) Φ ∗ bigSep (seg N (k + n) n') Φ) := by
  have he : seg N k (n + n') = seg N k n ∪ seg N (k + n) n' := by
    ext v; simp only [mem_seg, Finset.mem_union]; omega
  rw [he, bigSep_union (Finset.disjoint_left.mpr fun v h h' => by rw [mem_seg] at h h'; omega)]; rfl

/-- A loop: the steps' resources go from `A` to `B` one by one and the state along with them, `P` kept throughout. -/
theorem wp_steps {N : ℕ} {c : Dev nD} {P : sProp 𝕄} [Persistent P] {A B : Fin N → sProp 𝕄} {R : ℕ → sProp 𝕄} {f : Fin N → TcProg F PUnit} :
    ∀ (n k : ℕ) (h : k + n ≤ N),
      (∀ o : Fin N, k ≤ o.val → o.val < k + n → iprop(P ∗ A o ∗ R o.val) ⊢ runs c (f o) fun _ => iprop(B o ∗ R (o.val + 1))) →
      iprop(P ∗ bigSep (seg N k n) A ∗ R k) ⊢ runs c (stepsFrom f n k h) fun _ => iprop(bigSep (seg N k n) B ∗ R (k + n))
  | 0, k, h, _ => by
    rw [seg_zero, bigSep_empty, bigSep_empty]
    unfold stepsFrom runs
    rw [wp_ret]
    iintro ⟨-, -, HR⟩
    imodintro
    isplitr; · iempintro
    iexact HR
  | n + 1, k, h, hf => by
    rw [bigSep_seg_succ (by omega), bigSep_seg_succ (by omega)]
    show _ ⊢ runs c (f ⟨k, by omega⟩ >>= fun _ => stepsFrom f n (k + 1) (by omega)) _
    iintro ⟨#HP, ⟨HA, HAs⟩, HR⟩
    have hk : k < N := by omega
    have h₀ := hf ⟨k, hk⟩ (le_refl k) (show k < _ by omega)
    iapply (seq h₀) $$ [HA HR]
    · isplitr; · iexact HP
      isplitl [HA] <;> iassumption
    iintro %_
    iintro ⟨HB, HR⟩
    iapply (wp_wand _ _ _ (Q := fun _ => iprop(bigSep (seg N (k + 1) n) B ∗ R (k + 1 + n)))) $$ [HAs HR]
    · have h₁ : k + 1 + n ≤ N := by omega
      have hf' := fun (o : Fin N) (h₁ : k + 1 ≤ o.val) (h₂ : o.val < k + 1 + n) => hf o (by omega) (by omega)
      iapply (wp_steps n (k + 1) h₁ hf')
      isplitr; · iexact HP
      isplitl [HAs] <;> iassumption
    iintro %_
    iintro ⟨HBs, HR⟩
    rw [show k + (n + 1) = k + 1 + n by omega]
    isplitl [HB HBs]
    · isplitl [HB] <;> iassumption
    iexact HR

/-! ## The records every device keeps -/

variable (xs : Dev nD → Vec F S4096x128 .f32) (ws : Dev nD → Vec F S4096x8192 .f32)

/-- That a cell runs the protocol, and is at its first round or later. -/
def record (g : GSem nD τ sig) : sProp 𝕄 := iprop((∃ κ, cellInv ER (sched (F := F) xs ws) κ g) ∗ reached ER g 0)

instance record_persistent (g : GSem nD τ sig) : Persistent (record (F := F) xs ws g) := by unfold record; infer_instance

/-- The semaphores in use, numbered: the barrier, and the kernel's own. -/
def csem (k : Fin 67) : SemLoc sig := if h : k.val = 0 then .reg barS else .dma ⟨k.val + 1, by
  have : sig.nDmaSem = 68 := rfl
  omega⟩

/-- Every cell's record. -/
def records : sProp 𝕄 := bigSep (Finset.univ : Finset (Dev nD × Fin 67)) fun ck => record xs ws ((ck.1 : Thread nD τ), csem ck.2)

instance records_persistent : Persistent (records (F := F) xs ws) := by unfold records; infer_instance

theorem records_get (c : Dev nD) (k : Fin 67) : records (F := F) xs ws ⊢ record xs ws ((c : Thread nD τ), csem k) := by
  unfold records
  exact bigSep_elim (Finset.mem_univ (c, k))

theorem csem_bar : csem 0 = .reg barS := rfl
theorem csem_send (o : Fin 32) : csem ⟨1 + o.val, by omega⟩ = .dma (sendS o) := by
  unfold csem; rw [dif_neg (by show ¬ 1 + o.val = 0; omega)]
  exact congrArg _ (Fin.ext ((show 1 + o.val + 1 = 2 + o.val by omega).trans (sendS_val o).symm))
theorem csem_recv (o : Fin 32) : csem ⟨33 + o.val, by omega⟩ = .dma (recvS o) := by
  unfold csem; rw [dif_neg (by show ¬ 33 + o.val = 0; omega)]
  exact congrArg _ (Fin.ext ((show 33 + o.val + 1 = 34 + o.val by omega).trans (recvS_val o).symm))
theorem csem_w (g : Fin 8) : csem ⟨65 + g.val % 2, by omega⟩ = .dma (wS g) := by
  unfold csem; rw [dif_neg (by show ¬ 65 + g.val % 2 = 0; omega)]
  exact congrArg _ (Fin.ext ((show 65 + g.val % 2 + 1 = 66 + g.val % 2 by omega).trans (wS_val g).symm))

theorem rec_bar (c : Dev nD) : records (F := F) xs ws ⊢ record xs ws (barCell c) := records_get xs ws c 0
theorem rec_send (c : Dev nD) (o : Fin 32) : records (F := F) xs ws ⊢ record xs ws (sendCell c o) := by
  have h := records_get (F := F) xs ws c ⟨1 + o.val, by omega⟩; rwa [csem_send] at h
theorem rec_recv (c : Dev nD) (o : Fin 32) : records (F := F) xs ws ⊢ record xs ws (recvCell c o) := by
  have h := records_get (F := F) xs ws c ⟨33 + o.val, by omega⟩; rwa [csem_recv] at h
theorem rec_w (c : Dev nD) (g : Fin 8) : records (F := F) xs ws ⊢ record xs ws (wCell c g) := by
  have h := records_get (F := F) xs ws c ⟨65 + g.val % 2, by omega⟩; rwa [csem_w] at h

/-- What device `c` still owes, whatever it has waited for. -/
def owing (c : Dev nD) (O : CellTallies nD τ sig Unit) : sProp 𝕄 := iprop(∃ W, owes (c : Thread nD τ) O W)

end Cert.Loops

end
-- ==== Proof.Transfers.lean ====
/-
# The exchange of `x`

What one signal, one send, one wait for a block and one wait for a send do, each at any offset.
-/
module

public import proofs.«01_k».proof.Proof.Loops

@[expose] public section

set_option backward.proofsInPublic true

noncomputable section

namespace Cert.Transfers

open Cert.KernelIdeal Cert.KernelIdeal.Gen Cert.Steps Cert.Offsets Cert.Contents Cert.Schedule Cert.Loops
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-- What a device needs to signal the barrier of the device `o` further on: the duty there, and its own column block
    that device will fill. -/
def sigRes (c : Dev nD) (o : Fin 32) : sProp 𝕄 :=
  iprop(dutyTok (ER (F := F)) (barCell (fwd c o)) 0 (neg o) ∗ ∃ f, rPts (F := F) c (neg o) f)

/-- One signal. -/
theorem wp_sig (c : Dev nD) {o : Fin 32} (h : o ≠ 0) :
    iprop(records xs ws ∗ sigRes (F := F) c o ∗ owing c (owedBar c o.val + owedRecv c 1))
      ⊢ runs c (sigStep (F := F) c o) fun _ => iprop(emp ∗ owing c (owedBar c (o.val + 1) + owedRecv c 1)) := by
  unfold sigStep runs owing sigRes
  simp only [semSignalWord, Prog.lift, devFwd_eq]
  iintro ⟨#HR, ⟨Ht, Hr⟩, ⟨%W, HO⟩⟩
  ihave Hrec := (rec_bar xs ws (fwd c o)) $$ HR
  unfold record
  icases Hrec with ⟨⟨%κ, #HI⟩, #Hr0⟩
  iapply (Rounds.wp_signal 𝒱₀ ER (sched xs ws) (c : Thread nD τ) none (dst := (fwd c o : Thread nD τ)) (κ := κ)
      (d := neg o) (by rw [duties_bar]; exact Finset.mem_erase.mpr ⟨fun e => h (neg_eq_zero.mp e), Finset.mem_univ _⟩)
      ((amount_bar xs ws (fwd c o) 0 (neg o)).trans (by decide)) () (O₀ := owedBar c o.val + owedRecv c 1) (owedBar c (o.val + 1) + owedRecv c 1)
      (by rw [owedBar_succ]; exact add_right_comm _ _ _)) $$ [HO Ht Hr]
  · isplitr; · iexact HI
    isplitl [HO]; · iexact HO
    isplitl [Ht]; · iexact Ht
    isplitl [Hr]
    · rw [payload_bar]; unfold barPay; rw [fwd_neg, bwd_fwd]; iexact Hr
    iexact Hr0
  iintro HO
  rw [wp_ret]; imodintro
  isplitr; · iempintro
  iexists W; iexact HO

/-- The wait for the others' signals: every column block that is to be filled comes with it. -/
theorem wp_bar (c : Dev nD) :
    iprop(records xs ws ∗ levAts L lv ∗ cred (tallyAt (barCell c) () 31) ∗ atPos (ER (F := F)) (barCell c) 0 ∅ 0 ∗ owing c (owedRecv c 1))
      ⊢ runs c (barWait (F := F)) fun _ => iprop(owing c (owedRecv c 1) ∗ semVal (barCell c) 0 ∗ bigSep (seg 32 1 31) (barPay c)) := by
  unfold barWait runs owing
  simp only [semWaitWord, Prog.lift]
  iintro ⟨#HR, #Hlev, Hc, Hat, ⟨%W, HO⟩⟩
  ihave Hrec := (rec_bar xs ws c) $$ HR
  unfold record
  icases Hrec with ⟨⟨%κ, #HI⟩, -⟩
  iapply (Rounds.wp_wait_rest_token 𝒱₀ ER (sched xs ws) (c : Thread nD τ) none (κ := κ)
      (wpE_semWait_eq 𝒱₀ (c : Thread nD τ) none Set.univ) (Set.mem_univ _) () (O := owedRecv c 1) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (sched xs ws) (Set.mem_univ κ) (fun h => h) (R := 0 + 1) (later_bar xs ws c)) $$ [Hat] with Hz
  · isplitr; · iexact HI
    iexact Hat
  ihave Hpay := (Entails.of_eq (by rw [Finset.sdiff_empty, duties_bar, show (Finset.univ.erase (0 : Fin 32)) = seg 32 1 31 by decide]; rfl :
      bigSep ((sched xs ws).duties (barCell c) 0 \ ∅) (fun d => (sched xs ws).payload (barCell c) 0 d) = bigSep (seg 32 1 31) (barPay c))) $$ Hpay
  rw [wp_ret]; imodintro
  isplitl [HO]; · iexists _; iexact HO
  isplitl [Hz]; · iexact Hz
  iexact Hpay

/-- What a device needs to send to the device `o` further on: the rows to send, the column block they go to, the duties
    of both semaphores. -/
def sendRes (c : Dev nD) (o : Fin 32) : sProp 𝕄 :=
  iprop(xPts xs c o ∗ barPay c o ∗ dutyTok (ER (F := F)) (sendCell c o) 0 0 ∗ dutyTok (ER (F := F)) (recvCell (fwd c o) o) 0 0)

/-- The send's rule, at the device it is addressed to. -/
theorem wp_send_at (c n : Dev nD) {o : Fin 32} (h : o ≠ 0) (hn : n = fwd c o) (κ κ' : ℕ)
    {hsc : (rCols o : Memref sig (Dev.tc n : Thread nD τ).2.kind .vmem S128x128 .f32).view.ref.isScScratch = false}
    {hsrc : (xRows c o).view.WordExact} {hdst : (rCols o).view.WordExact}
    {hsem : DmaTarget.Typed .vmem (.dma (recvS o)) (.remote (Dev.tc n : Thread nD τ) (rCols o) (.dma (sendS o)) hsc)}
    {Q : PUnit → sProp 𝕄} {k : PUnit → TcProg F PUnit} (f : Vec F S128x4096 .f32) (W : Waits sig Unit) :
    iprop(cellInv ER (sched xs ws) κ (sendCell c o) ∗ cellInv ER (sched xs ws) κ' (recvCell (fwd c o) o)
        ∗ xPts xs c o ∗ rPts (fwd c o) o f ∗ owes (c : Thread nD τ) (owedRecv c o.val) W
        ∗ dutyTok (ER (F := F)) (sendCell c o) 0 0 ∗ reached (ER (F := F)) (sendCell c o) 0
        ∗ dutyTok (ER (F := F)) (recvCell (fwd c o) o) 0 0 ∗ reached (ER (F := F)) (recvCell (fwd c o) o) 0)
      ⊢ iprop(((cred (tallyAt (sendCell c o) () NX) ∗ owes (c : Thread nD τ) (owedRecv c (o.val + 1)) W) -∗ runs c (k ⟨⟩) Q)
          -∗ runs c (.op (.enqueueDma (xRows c o) (.remote (Dev.tc n : Thread nD τ) (rCols o) (.dma (sendS o)) hsc) (.dma (recvS o)) hsrc hdst hsem) k) Q) := by
  subst hn
  unfold xPts rPts
  rw [← xRows_set, ← rCols_set]
  have hN : (rCols o).view.amount (.dma (recvS o)) = NX := rfl
  have hp₁ : (((xRows c o).view.loc (c : Thread nD τ)) ↦[(xRows c o).view.set]{fullShare} xs c : sProp 𝕄) ⊢ (sched xs ws).payload (sendCell c o) 0 0 := by
    rw [payload_send, xRows_set]; exact BI.Entails.refl _
  have hp₂ : (((rCols o).view.loc (fwd c o : Thread nD τ)) ↦[(rCols o).view.set]{fullShare}
      ((rCols o).view.write (Elt F) f ((xRows c o).view.read (Elt F) (xs c)) Finset.univ) : sProp 𝕄)
      ⊢ (sched xs ws).payload (recvCell (fwd c o) o) 0 0 := by
    rw [payload_recv]; unfold rPts; rw [← rCols_set]; exact Entails.of_eq (pointsTo_congr (landed_x xs c o f))
  have hd₁ : (0 : Fin 32) ∈ (sched (F := F) xs ws).duties (sendCell c o) 0 := by rw [duties_send xs ws c h]; exact Finset.mem_singleton_self _
  have hd₂ : (0 : Fin 32) ∈ (sched (F := F) xs ws).duties (recvCell (fwd c o) o) 0 := by rw [duties_recv xs ws _ h]; exact Finset.mem_singleton_self _
  exact Rounds.wp_send_pointsTo 𝒱₀ ER (sched xs ws) (c : Thread nD τ) none (κ₁ := κ) (κ₂ := κ')
    (c' := (fwd c o : Thread nD τ)) (src := xRows c o) (q := fullShare) (fs := xs c) (fd := f) hd₁ hd₂
    () () NX hN (amount_send xs ws c o 0 0) (amount_recv xs ws (fwd c o) o 0 0) (owedRecv c (o.val + 1)) (owedRecv_succ c o) (W := W)
    hp₁ hp₂

/-- One send. -/
theorem wp_send (c : Dev nD) {o : Fin 32} (h : o ≠ 0) :
    iprop(records xs ws ∗ sendRes xs c o ∗ owing c (owedRecv c o.val))
      ⊢ runs c (sendStep (F := F) c o) fun _ => iprop(cred (tallyAt (sendCell c o) () NX) ∗ owing c (owedRecv c (o.val + 1))) := by
  unfold sendStep owing sendRes barPay
  simp only [Prog.lift]
  iintro ⟨#HR, ⟨Hx, ⟨%f, Hr⟩, Ht, Ht'⟩, ⟨%W, HO⟩⟩
  ihave Hrec := (rec_send xs ws c o) $$ HR
  ihave Hrec' := (rec_recv xs ws (fwd c o) o) $$ HR
  unfold record
  icases Hrec with ⟨⟨%κ, #HI⟩, #Hr0⟩
  icases Hrec' with ⟨⟨%κ', #HI'⟩, #Hr0'⟩
  iapply (wp_send_at xs ws c _ h (devFwd_eq c o) κ κ' f W) $$ [Hx Hr HO Ht Ht']
  · isplitr; · iexact HI
    isplitr; · iexact HI'
    isplitl [Hx]; · iexact Hx
    isplitl [Hr]; · iexact Hr
    isplitl [HO]; · iexact HO
    isplitl [Ht]; · iexact Ht
    isplitr; · iexact Hr0
    isplitl [Ht']; · iexact Ht'
    iexact Hr0'
  iintro ⟨Hc, HO⟩
  unfold runs
  rw [wp_ret]; imodintro
  isplitl [Hc]; · iexact Hc
  iexists W; iexact HO

/-- Before the wait for the block from `o` back, -/
def recvPre (c : Dev nD) (o : Fin 32) : sProp 𝕄 := iprop(cred (tallyAt (recvCell c o) () NX) ∗ atPos (ER (F := F)) (recvCell c o) 0 ∅ 0)
/-- and after it. -/
def recvPost (c : Dev nD) (o : Fin 32) : sProp 𝕄 := iprop(rPts c o (xRow xs c) ∗ semVal (recvCell c o) 0)

/-- One wait for a block. -/
theorem wp_recv (c : Dev nD) {o : Fin 32} (h : o ≠ 0) :
    iprop(records xs ws ∗ recvPre (F := F) c o ∗ owing c 0)
      ⊢ runs c (recvWait (F := F) o) fun _ => iprop(recvPost xs c o ∗ owing c 0) := by
  unfold recvWait runs owing recvPre recvPost
  simp only [Prog.lift]
  iintro ⟨#HR, ⟨Hc, Hat⟩, ⟨%W, HO⟩⟩
  ihave Hrec := (rec_recv xs ws c o) $$ HR
  unfold record
  icases Hrec with ⟨⟨%κ, #HI⟩, -⟩
  iapply (Rounds.wp_wait_rest_token 𝒱₀ ER (sched xs ws) (c : Thread nD τ) none (κ := κ)
      (wpE_waitDma2_eq 𝒱₀ (c : Thread nD τ) none Set.univ) (Set.mem_univ _) () (O := 0) (W := W) (R := 0) (m := 0) (T := ∅)
      (by rw [Nat.zero_add, expect_recv xs ws c h]; exact rCols_credit o)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched xs ws) (Set.mem_univ κ) (fun h => h) (R := 0 + 1) (later_recv xs ws c o)) $$ [Hat] with Hz
  · isplitr; · iexact HI
    iexact Hat
  ihave Hpay := (Entails.of_eq (by rw [Finset.sdiff_empty, duties_recv xs ws c h, bigSep_singleton, payload_recv] :
      bigSep ((sched xs ws).duties (recvCell c o) 0 \ ∅) (fun d => (sched xs ws).payload (recvCell c o) 0 d) = rPts c o (xRow xs c))) $$ Hpay
  rw [wp_ret]; imodintro
  isplitl [Hpay Hz]
  · isplitl [Hpay] <;> iassumption
  iexists _; iexact HO

/-- Before the wait for the send of offset `o`, -/
def sentPre (c : Dev nD) (o : Fin 32) : sProp 𝕄 := iprop(cred (tallyAt (sendCell c o) () NX) ∗ atPos (ER (F := F)) (sendCell c o) 0 ∅ 0)
/-- and after it. -/
def sentPost (c : Dev nD) (o : Fin 32) : sProp 𝕄 := iprop(xPts xs c o ∗ semVal (sendCell c o) 0)

/-- One wait for a send. -/
theorem wp_sent (c : Dev nD) {o : Fin 32} (h : o ≠ 0) :
    iprop(records xs ws ∗ sentPre (F := F) c o ∗ owing c 0)
      ⊢ runs c (sendWait (F := F) c o) fun _ => iprop(sentPost xs c o ∗ owing c 0) := by
  unfold sendWait runs owing sentPre sentPost
  simp only [Prog.lift]
  iintro ⟨#HR, ⟨Hc, Hat⟩, ⟨%W, HO⟩⟩
  ihave Hrec := (rec_send xs ws c o) $$ HR
  unfold record
  icases Hrec with ⟨⟨%κ, #HI⟩, -⟩
  iapply (Rounds.wp_wait_rest_token 𝒱₀ ER (sched xs ws) (c : Thread nD τ) none (κ := κ)
      (wpE_waitDma2_eq 𝒱₀ (c : Thread nD τ) none Set.univ) (Set.mem_univ _) () (O := 0) (W := W) (R := 0) (m := 0) (T := ∅)
      (by rw [Nat.zero_add, expect_send xs ws c h]; exact xRows_credit c o)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched xs ws) (Set.mem_univ κ) (fun h => h) (R := 0 + 1) (later_send xs ws c o)) $$ [Hat] with Hz
  · isplitr; · iexact HI
    iexact Hat
  ihave Hpay := (Entails.of_eq (by rw [Finset.sdiff_empty, duties_send xs ws c h, bigSep_singleton, payload_send] :
      bigSep ((sched xs ws).duties (sendCell c o) 0 \ ∅) (fun d => (sched xs ws).payload (sendCell c o) 0 d) = xPts xs c o)) $$ Hpay
  rw [wp_ret]; imodintro
  isplitl [Hpay Hz]
  · isplitl [Hpay] <;> iassumption
  iexists _; iexact HO

theorem own_store_subset : (rM.access (Rect.unit (s := S128x4096) ![0, 0] S128x128.size inb_S128x4096_S128x128_0_0) : View sig .tc _ _ _).setOn Finset.univ
    ⊆ rSet 0 := by
  rw [View.setOn_univ, View.set_slice]; exact own_cols_subset

/-- The device's own rows, copied in place. -/
theorem wp_own (c : Dev nD) :
    iprop(xPts xs c 0 ∗ ∃ f, rPts (F := F) c 0 f) ⊢ runs c (ownStep (F := F) c) fun _ => iprop(xPts xs c 0 ∗ rPts c 0 (xRow xs c)) := by
  unfold ownStep runs xPts rPts
  simp only [Prog.lift, Prog.bind_op, Prog.bind_ret]
  iintro ⟨Hx, ⟨%f, Hr⟩⟩
  iapply (wp_load 𝒱₀ (c : Thread nD τ) none Set.univ (m := xM) (own_subset c)) $$ Hx; iintro Hx
  iapply (wp_load 𝒱₀ (c : Thread nD τ) none Set.univ (m := rM) own_cols_subset) $$ Hr; iintro Hr
  iapply (wp_store 𝒱₀ (c : Thread nD τ) none Set.univ (m := rM) (Mk := Finset.univ) own_store_subset) $$ Hr; iintro Hr
  rw [wp_ret]; imodintro
  isplitl [Hx]; · iexact Hx
  ihave Hr := (Entails.of_eq (pointsTo_congr (landed_own xs c f))) $$ Hr
  iexact Hr

end Cert.Transfers

end
-- ==== Proof.Weights.lean ====
/-
# The copies of the weights

One group's copies into its slot, and the waits for them. The four copies of a group raise one semaphore, so the first
three waits say only how many raises have come; the fourth takes the round to its end and hands over all four blocks.
-/
module

public import proofs.«01_k».proof.Proof.Loops

@[expose] public section

set_option backward.proofsInPublic true

noncomputable section

namespace Cert.Weights

open Cert.KernelIdeal Cert.KernelIdeal.Gen Cert.Steps Cert.Offsets Cert.Contents Cert.Schedule Cert.Loops
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-- What the copy of block `i` of group `g` needs: the duty, the rows to copy, the block they go to. -/
def fetchRes (c : Dev nD) (g : Fin 8) (i : Fin 4) : sProp 𝕄 :=
  iprop(dutyTok (ER (F := F)) (wCell c g) (g.val / 2) (dutyOf i) ∗ wPts ws c g i ∗ ∃ f, bPts c (par g) i f)
/-- What each copy gives: the credit its wait takes. -/
def fetched (c : Dev nD) (g : Fin 8) (_ : Fin 4) : sProp 𝕄 := cred (tallyAt (wCell c g) () NW)

theorem mem_wDuties (i : Fin 4) : dutyOf i ∈ wDuties := Finset.mem_map.mpr ⟨i, Finset.mem_univ _, rfl⟩

/-- One copy. -/
theorem wp_fetchStep (c : Dev nD) (g : Fin 8) (i : Fin 4) :
    iprop((records xs ws ∗ reached (ER (F := F)) (wCell c g) (g.val / 2)) ∗ fetchRes ws c g i ∗ emp)
      ⊢ runs c (fetchStep (F := F) c g i) fun _ => iprop(fetched (F := F) c g i ∗ emp) := by
  unfold fetchStep fetchRes fetched
  simp only [Prog.lift]
  iintro ⟨⟨#HR, #Hr⟩, ⟨Ht, Hw, ⟨%f, Hb⟩⟩, -⟩
  ihave Hrec := (rec_w xs ws c g) $$ HR
  unfold record
  icases Hrec with ⟨⟨%κ, #HI⟩, -⟩
  have hN : (bPiece g i).view.amount (.dma (wS g)) = NW := rfl
  have hd : dutyOf i ∈ (sched (F := F) xs ws).duties (wCell c g) (g.val / 2) := by rw [duties_w]; exact mem_wDuties i
  have hp : iprop((((bPiece g i).view.loc (c : Thread nD τ)) ↦[(bPiece g i).view.set]{fullShare}
        ((bPiece g i).view.write (Elt F) f ((wRows c g i).view.read (Elt F) (ws c)) Finset.univ) : sProp 𝕄)
      ∗ (((wRows c g i).view.loc (c : Thread nD τ)) ↦[(wRows c g i).view.set]{fullShare} ws c))
      ⊢ (sched xs ws).payload (wCell c g) (g.val / 2) (dutyOf i) := by
    rw [payload_w, blockOf_dutyOf, pointsTo_congr (landed_w (ws c) c g i f), bPiece_set, wRows_set]
    unfold wPay bPts wPts
    exact BI.Entails.refl _
  iapply (Rounds.wp_copy_pointsTo 𝒱₀ ER (sched xs ws) (c : Thread nD τ) none (κ := κ) (src := wRows c g i) (dst := bPiece g i)
      (q := fullShare) (fs := ws c) (fd := f) hd () NW hN (amount_w xs ws c g _ _) hp) $$ [Ht Hw Hb]
  · isplitr; · iexact HI
    isplitl [Hw]; · rw [wRows_set]; unfold wPts; iexact Hw
    isplitl [Hb]; · rw [bPiece_set]; unfold bPts; iexact Hb
    isplitl [Ht]; · iexact Ht
    iexact Hr
  iintro Hc
  rw [wp_ret]; imodintro
  isplitl [Hc]; · iexact Hc
  iempintro

/-- A group's copies. -/
theorem wp_fetch (c : Dev nD) (g : Fin 8) :
    iprop(records xs ws ∗ reached (ER (F := F)) (wCell c g) (g.val / 2) ∗ bigSep Finset.univ (fetchRes ws c g))
      ⊢ runs c (fetch (F := F) c g) fun _ => bigSep Finset.univ (fetched (F := F) c g) := by
  have h := wp_steps (N := 4) (c := c) (P := iprop(records xs ws ∗ reached (ER (F := F)) (wCell c g) (g.val / 2)))
    (A := fetchRes ws c g) (B := fetched (F := F) c g) (R := fun _ => iprop(emp)) (f := fetchStep (F := F) c g)
    4 0 (by omega) (fun i _ _ => wp_fetchStep xs ws c g i)
  rw [seg_all] at h
  unfold fetch
  iintro ⟨#HR, #Hr, H⟩
  iapply (wp_wand _ _ _) $$ [H]
  · iapply h
    isplitr
    · isplitr; · iexact HR
      iexact Hr
    isplitl [H]; · iexact H
    iempintro
  iintro %_
  iintro ⟨H, -⟩
  iexact H

/-! ## The waits -/

/-- The blocks the raises `S` handed over. -/
abbrev got (c : Dev nD) (g : Fin 8) (S : Finset (Fin 32)) : sProp 𝕄 :=
  bigSep S fun d => (sched xs ws).payload (wCell c g) (g.val / 2) d

theorem got_union (c : Dev nD) (g : Fin 8) {S S' : Finset (Fin 32)} (h : S ⊆ S') :
    iprop(got xs ws c g S ∗ got xs ws c g (S' \ S)) = got xs ws c g S' := by
  unfold got
  conv_rhs => rw [← Finset.union_sdiff_of_subset h]
  rw [bigSep_union Finset.disjoint_sdiff]; rfl

/-- After `k` of a group's waits: `k` blocks' worth of raises taken, and after the fourth all four blocks. -/
def waited (c : Dev nD) (g : Fin 8) (k : ℕ) : sProp 𝕄 :=
  if k < 4 then iprop(∃ S, ⌜S ⊆ wDuties⌝ ∗ atPos (ER (F := F)) (wCell c g) (g.val / 2) S (k * NW) ∗ got xs ws c g S ∗ owing c 0)
  else iprop(atPos (ER (F := F)) (wCell c g) (g.val / 2 + 1) ∅ 0 ∗ reached (ER (F := F)) (wCell c g) (g.val / 2 + 1)
    ∗ got xs ws c g wDuties ∗ owing c 0)

/-- One of the first three waits, -/
theorem wp_fetchWait_early (c : Dev nD) (g : Fin 8) (i : Fin 4) (hi : i.val < 3) :
    iprop(records xs ws ∗ fetched (F := F) c g i ∗ waited xs ws c g i.val)
      ⊢ runs c (fetchWait (F := F) c g i) fun _ => iprop(emp ∗ waited xs ws c g (i.val + 1)) := by
  unfold fetchWait fetched waited owing runs
  rw [if_pos (by omega), if_pos (by omega)]
  simp only [Prog.lift]
  iintro ⟨#HR, Hc, ⟨%S, %hS, Hat, Hgot, ⟨%W, HO⟩⟩⟩
  ihave Hrec := (rec_w xs ws c g) $$ HR
  unfold record
  icases Hrec with ⟨⟨%κ, #HI⟩, -⟩
  iapply (Rounds.wp_wait 𝒱₀ ER (sched xs ws) (c : Thread nD τ) none (κ := κ)
      (wpE_waitDma2_eq 𝒱₀ (c : Thread nD τ) none Set.univ) (Set.mem_univ _) {(SemLoc.dma (wS g), ())} (cr := Finsupp.single () NW)
      (O := 0) (W := W) (R := g.val / 2) (m := i.val * NW) (T := S)
      (by rw [Util.total_single]; exact (bPiece_credit g i).symm) (image_single_subset _ () NW)) $$ [Hc HO Hat]
  · isplitr; · iexact HI
    isplitl [Hc]; · iexact Hc
    isplitl [HO]; · iexact HO
    isplitr
    · rw [MayOwe_zero]; iempintro
    iexact Hat
  iintro %S'
  iintro ⟨%hS', HO, Hat, Hpay⟩
  rw [wp_ret]; imodintro
  isplitr; · iempintro
  iexists S'
  isplitr; · ipureintro; rw [← duties_w (F := F) xs ws c g]; exact hS'.2.1
  isplitl [Hat]
  · rw [Nat.succ_mul]; iexact Hat
  isplitl [Hgot Hpay]
  · iapply (Entails.of_eq (got_union xs ws c g hS'.1))
    isplitl [Hgot] <;> iassumption
  iexists _; iexact HO

/-- and the fourth. -/
theorem wp_fetchWait_last (c : Dev nD) (g : Fin 8) (i : Fin 4) (hi : i.val = 3) :
    iprop(records xs ws ∗ fetched (F := F) c g i ∗ waited xs ws c g i.val)
      ⊢ runs c (fetchWait (F := F) c g i) fun _ => iprop(emp ∗ waited xs ws c g (i.val + 1)) := by
  unfold fetchWait fetched waited owing runs
  rw [if_pos (by omega), if_neg (by omega)]
  simp only [Prog.lift]
  iintro ⟨#HR, Hc, ⟨%S, %hS, Hat, Hgot, ⟨%W, HO⟩⟩⟩
  ihave Hrec := (rec_w xs ws c g) $$ HR
  unfold record
  icases Hrec with ⟨⟨%κ, #HI⟩, -⟩
  iapply (Rounds.wp_wait_rest_token 𝒱₀ ER (sched xs ws) (c : Thread nD τ) none (κ := κ)
      (wpE_waitDma2_eq 𝒱₀ (c : Thread nD τ) none Set.univ) (Set.mem_univ _) () (O := 0) (W := W) (R := g.val / 2) (m := i.val * NW) (T := S)
      (by rw [expect_w, hi, show (bPiece g i).view.dmaCredit = NW from bPiece_credit g i]; omega)) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  rw [wp_ret]; imodintro
  isplitr; · iempintro
  isplitl [Hat]; · iexact Hat
  isplitl [Hr]; · iexact Hr
  isplitl [Hgot Hpay]
  · rw [duties_w]
    iapply (Entails.of_eq (got_union xs ws c g hS))
    isplitl [Hgot] <;> iassumption
  iexists _; iexact HO

/-- The four duties' blocks, by block. -/
theorem got_all (c : Dev nD) (g : Fin 8) : got xs ws c g wDuties = bigSep Finset.univ (wPay ws c g) := by
  unfold got wDuties
  rw [bigSep_map]
  refine bigSep_congr fun i _ => ?_
  show (sched xs ws).payload (wCell c g) (g.val / 2) (dutyOf i) = _
  rw [payload_w, blockOf_dutyOf]

/-- A group's waits: its slot filled, its rows of the weights back, and the semaphore a round further on. -/
theorem wp_fetchWaits (c : Dev nD) (g : Fin 8) :
    iprop(records xs ws ∗ bigSep Finset.univ (fetched (F := F) c g) ∗ atPos (ER (F := F)) (wCell c g) (g.val / 2) ∅ 0 ∗ owing c 0)
      ⊢ runs c (fetchWaits (F := F) c g) fun _ => iprop(bigSep Finset.univ (wPay ws c g)
        ∗ atPos (ER (F := F)) (wCell c g) (g.val / 2 + 1) ∅ 0 ∗ reached (ER (F := F)) (wCell c g) (g.val / 2 + 1) ∗ owing c 0) := by
  have h := wp_steps (N := 4) (c := c) (P := records xs ws)
    (A := fetched (F := F) c g) (B := fun _ => iprop(emp)) (R := waited xs ws c g) (f := fetchWait (F := F) c g)
    4 0 (by omega) (fun i _ _ => (Nat.lt_or_ge i.val 3).elim (wp_fetchWait_early xs ws c g i) fun h => wp_fetchWait_last xs ws c g i (by omega))
  rw [seg_all] at h
  unfold fetchWaits
  iintro ⟨#HR, Hc, Hat, HO⟩
  iapply (wp_wand _ _ _) $$ [Hc Hat HO]
  · iapply h
    isplitr; · iexact HR
    isplitl [Hc]; · iexact Hc
    unfold waited got
    rw [if_pos (by omega), Nat.zero_mul]
    iexists ∅
    isplitr; · ipureintro; exact Finset.empty_subset _
    isplitl [Hat]; · iexact Hat
    isplitr; · rw [bigSep_empty]; iempintro
    iexact HO
  iintro %_
  unfold waited
  rw [if_neg (by omega), got_all]
  iintro ⟨-, Hat, Hr, Hgot, HO⟩
  isplitl [Hgot]; · iexact Hgot
  isplitl [Hat]; · iexact Hat
  isplitl [Hr] <;> iassumption

end Cert.Weights

end
-- ==== Proof.Dots.lean ====
/-
# The products

A group's product: its four column blocks of the assembled rows and its slot of weights are loaded whole, and the
product starts, or is added to, the rows of the result.
-/
module

public import proofs.«01_k».proof.Proof.Loops

@[expose] public section

set_option backward.proofsInPublic true

noncomputable section

namespace Cert.Dots

open Cert.KernelIdeal Cert.KernelIdeal.Gen Cert.Steps Cert.Offsets Cert.Contents Cert.Schedule Cert.Loops
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-- The rows of the result on device `c`, holding `f`. -/
def oPts (c : Dev nD) (f : Vec F S128x8192 .f32) : sProp 𝕄 := ((c : Thread nD τ).loc cc0_stg1_0) ↦{fullShare} f
/-- Group `g`'s column blocks, filled. -/
def xBlk (c : Dev nD) (g : Fin 8) : sProp 𝕄 := bigSep Finset.univ fun i : Fin 4 => rPts c (off g i) (xRow xs c)
/-- Group `g`'s slot, filled. -/
def bBlk (c : Dev nD) (g : Fin 8) : sProp 𝕄 := bigSep Finset.univ fun i : Fin 4 => bPts c (par g) i (wBuf (ws c) c g)

theorem xBlk_eq (c : Dev nD) (g : Fin 8) :
    xBlk xs c g = ((((c : Thread nD τ).loc cc0_scratch0) ↦[(Finset.univ : Finset (Fin 4)).biUnion fun i => rSet (off g i)]{fullShare} xRow xs c) : sProp 𝕄) := by
  unfold xBlk rPts
  exact (pointsTo_biUnion Finset.univ _ fun i _ i' _ h => rSet_disjoint fun e => h (congrArg Prod.snd (offEquiv.injective (a₁ := (g, i)) (a₂ := (g, i')) e))).symm
theorem bBlk_eq (c : Dev nD) (g : Fin 8) :
    bBlk ws c g = ((((c : Thread nD τ).loc cc0_scratch1) ↦[(Finset.univ : Finset (Fin 4)).biUnion fun i => bSet (par g) i]{fullShare} wBuf (ws c) c g) : sProp 𝕄) := by
  unfold bBlk bPts
  exact (pointsTo_biUnion Finset.univ _ fun i _ i' _ h => bSet_disjoint (p := (par g, i)) (p' := (par g, i')) fun e => h (congrArg Prod.snd e)).symm

/-- The load of a group's columns, -/
theorem wp_loadX (c : Dev nD) (g : Fin 8) :
    xBlk xs c g ⊢ runs c (loadX (F := F) g) fun a => iprop(⌜a = xGrp xs c g⌝ ∗ xBlk xs c g) := by
  unfold loadX runs
  rw [xBlk_eq]
  simp only [Prog.lift]
  iintro H
  iapply (wp_load 𝒱₀ (c : Thread nD τ) none Set.univ (m := rM) (grp_subset g)) $$ H; iintro H
  rw [wp_ret]; imodintro
  isplitr; · ipureintro; exact read_xGrp xs c g
  iexact H
/-- of its slot, -/
theorem wp_loadW (c : Dev nD) (g : Fin 8) :
    bBlk ws c g ⊢ runs c (loadW (F := F) g) fun a => iprop(⌜a = wGrp (ws c) c g⌝ ∗ bBlk ws c g) := by
  unfold loadW runs
  rw [bBlk_eq]
  simp only [Prog.lift]
  iintro H
  iapply (wp_load 𝒱₀ (c : Thread nD τ) none Set.univ (m := bM) (slot_subset g)) $$ H; iintro H
  rw [wp_ret]; imodintro
  isplitr; · ipureintro; exact read_wGrp (ws c) c g
  iexact H

theorem hz : (![0, 0] : Fin 2 → Nat) = fun _ => 0 := funext fun a => by fin_cases a <;> rfl

/-- of the result, -/
theorem wp_loadO (c : Dev nD) (f : Vec F S128x8192 .f32) :
    oPts c f ⊢ runs c (loadO (F := F)) fun a => iprop(⌜a = f⌝ ∗ oPts c f) := by
  unfold loadO runs oPts
  simp only [Prog.lift]
  iintro H
  iapply (wp_load 𝒱₀ (c : Thread nD τ) none Set.univ (m := oM) (Finset.subset_univ _)) $$ H; iintro H
  rw [wp_ret]; imodintro
  isplitr; · ipureintro; exact Memref.readAt_unit_zero (Elt F) cc0_stg1_0 hz _ f
  iexact H
theorem write_o (f v : Vec F S128x8192 .f32) :
    (oM.access (Rect.unit (s := S128x8192) ![0, 0] S128x8192.size inb_S128x8192_S128x8192_0_0) : View sig .tc _ _ _).write (Elt F) f v Finset.univ = v :=
  Memref.write_access_unit_zero_univ (Elt F) cc0_stg1_0 hz _ f v

/-- and the store. -/
theorem wp_storeO (c : Dev nD) (f v : Vec F S128x8192 .f32) :
    oPts c f ⊢ runs c (storeO (F := F) v) fun _ => oPts c v := by
  unfold storeO runs oPts
  simp only [Prog.lift]
  iintro H
  iapply (wp_store 𝒱₀ (c : Thread nD τ) none Set.univ (m := oM) (r := Rect.unit (s := S128x8192) ![0, 0] S128x8192.size inb_S128x8192_S128x8192_0_0) (Mk := Finset.univ) (Finset.subset_univ _)) $$ H; iintro H
  rw [wp_ret]; imodintro
  rw [write_o]
  iexact H

/-- The first group. -/
theorem wp_firstDot (c : Dev nD) :
    iprop(xBlk xs c 0 ∗ bBlk ws c 0 ∗ ∃ f, oPts (F := F) c f)
      ⊢ runs c (firstDot (F := F)) fun _ => iprop(xBlk xs c 0 ∗ bBlk ws c 0 ∗ oPts c (acc xs (ws c) c 0)) := by
  unfold firstDot
  iintro ⟨Hx, Hb, ⟨%f, Ho⟩⟩
  iapply (seq (wp_loadX xs c 0)) $$ Hx; iintro %a; iintro ⟨%ha, Hx⟩; subst ha
  iapply (seq (wp_loadW ws c 0)) $$ Hb; iintro %b; iintro ⟨%hb, Hb⟩; subst hb
  iapply (seq (wp_loadO c f)) $$ Ho; iintro %o; iintro ⟨-, Ho⟩
  iapply (wp_wand _ _ _) $$ [Ho]
  · iapply (wp_storeO c f); iexact Ho
  iintro %_; iintro Ho
  isplitl [Hx]; · iexact Hx
  isplitl [Hb]; · iexact Hb
  iexact Ho

/-- A later group. -/
theorem wp_midDot (c : Dev nD) (g : Fin 8) (k : ℕ) (hk : g.val = k + 1) :
    iprop(xBlk xs c g ∗ bBlk ws c g ∗ oPts (F := F) c (acc xs (ws c) c k))
      ⊢ runs c (midDot (F := F) g) fun _ => iprop(xBlk xs c g ∗ bBlk ws c g ∗ oPts c (acc xs (ws c) c (k + 1))) := by
  unfold midDot
  iintro ⟨Hx, Hb, Ho⟩
  iapply (seq (wp_loadX xs c g)) $$ Hx; iintro %a; iintro ⟨%ha, Hx⟩; subst ha
  iapply (seq (wp_loadW ws c g)) $$ Hb; iintro %b; iintro ⟨%hb, Hb⟩; subst hb
  iapply (seq (wp_loadO c _)) $$ Ho; iintro %o; iintro ⟨%ho, Ho⟩; subst ho
  iapply (seq (wp_loadO c _)) $$ Ho; iintro %o; iintro ⟨-, Ho⟩
  have hg : g = Fin.ofNat 8 (k + 1) := Fin.ext (by show g.val = (k + 1) % 8; omega)
  subst hg
  iapply (wp_wand _ _ _) $$ [Ho]
  · iapply (wp_storeO c _); iexact Ho
  iintro %_; iintro Ho
  isplitl [Hx]; · iexact Hx
  isplitl [Hb]; · iexact Hb
  iexact Ho

/-- The last group. -/
theorem wp_lastDot (c : Dev nD) :
    iprop(xBlk xs c 7 ∗ bBlk ws c 7 ∗ oPts (F := F) c (acc xs (ws c) c 6))
      ⊢ runs c (lastDot (F := F)) fun _ => iprop(xBlk xs c 7 ∗ bBlk ws c 7 ∗ oPts c (outVal xs (ws c) c)) := by
  unfold lastDot
  iintro ⟨Hx, Hb, Ho⟩
  iapply (seq (wp_loadX xs c 7)) $$ Hx; iintro %a; iintro ⟨%ha, Hx⟩; subst ha
  iapply (seq (wp_loadW ws c 7)) $$ Hb; iintro %b; iintro ⟨%hb, Hb⟩; subst hb
  iapply (seq (wp_loadO c _)) $$ Ho; iintro %o; iintro ⟨%ho, Ho⟩; subst ho
  iapply (seq (wp_loadO c _)) $$ Ho; iintro %o; iintro ⟨-, Ho⟩
  iapply (wp_wand _ _ _) $$ [Ho]
  · iapply (wp_storeO c _); iexact Ho
  iintro %_; iintro Ho
  isplitl [Hx]; · iexact Hx
  isplitl [Hb]; · iexact Hb
  iexact Ho

end Cert.Dots

end
-- ==== Proof.Groups.lean ====
/-
# The groups

One group of four offsets: its copies are waited for, its blocks of `x` are, its product is added, and the copies of
the group two further on start in the slot it has freed. The middle groups are one statement, at any group.
-/
module

public import proofs.«01_k».proof.Proof.Transfers
public import proofs.«01_k».proof.Proof.Weights
public import proofs.«01_k».proof.Proof.Dots

@[expose] public section

set_option backward.proofsInPublic true

noncomputable section

namespace Cert.Groups

open Cert.KernelIdeal Cert.KernelIdeal.Gen Cert.Steps Cert.Offsets Cert.Contents Cert.Schedule Cert.Loops Cert.Transfers Cert.Weights Cert.Dots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-! ## Separating conjunctions over index families -/

/-- A family of pairs is a pair of families. -/
theorem bigSep_pair {I : Type} (s : Finset I) (Φ Ψ : I → sProp 𝕄) :
    bigSep s (fun i => iprop(Φ i ∗ Ψ i)) = iprop(bigSep s Φ ∗ bigSep s Ψ) := bigSep_sep s Φ Ψ

/-- A group's offsets, by block number. -/
theorem seg_off (g : Fin 8) (Φ : Fin 32 → sProp 𝕄) :
    bigSep (seg 32 (4 * g.val) 4) Φ = bigSep Finset.univ fun i : Fin 4 => Φ (off g i) := by
  have he : seg 32 (4 * g.val) 4 = Finset.univ.map ⟨off g, fun i i' h => congrArg Prod.snd (offEquiv.injective (a₁ := (g, i)) (a₂ := (g, i')) h)⟩ := by
    ext v
    simp only [mem_seg, Finset.mem_map, Finset.mem_univ, true_and, Function.Embedding.coeFn_mk]
    constructor
    · intro h; exact ⟨⟨v.val - 4 * g.val, by omega⟩, Fin.ext (by show 4 * g.val + (v.val - 4 * g.val) = v.val; omega)⟩
    · rintro ⟨i, rfl⟩; show 4 * g.val ≤ 4 * g.val + i.val ∧ 4 * g.val + i.val < 4 * g.val + 4; omega
  rw [he, bigSep_map]; rfl

/-- The offsets of a run of groups, group by group. -/
theorem seg_groups (Φ : Fin 32 → sProp 𝕄) : ∀ (n k : ℕ), k + n ≤ 8 →
    bigSep (seg 8 k n) (fun g => bigSep (seg 32 (4 * g.val) 4) Φ) = bigSep (seg 32 (4 * k) (4 * n)) Φ
  | 0, k, _ => by rw [seg_zero, Nat.mul_zero, seg_zero, bigSep_empty, bigSep_empty]
  | n + 1, k, h => by
    have hk : k < 8 := by omega
    rw [bigSep_seg_succ hk, seg_groups Φ n (k + 1) (by omega), show 4 * (n + 1) = 4 + 4 * n by omega, bigSep_seg_append,
      show 4 * (k + 1) = 4 * k + 4 by omega]

/-! ## A group's resources -/

/-- The duties of group `g`'s copies, with the rows they copy. -/
def wTok (c : Dev nD) (g : Fin 8) : sProp 𝕄 :=
  bigSep Finset.univ fun i : Fin 4 => iprop(dutyTok (ER (F := F)) (wCell c g) (g.val / 2) (dutyOf i) ∗ wPts ws c g i)
/-- Group `g`'s rows of the weights. -/
def wBlk (c : Dev nD) (g : Fin 8) : sProp 𝕄 := bigSep Finset.univ fun i : Fin 4 => wPts ws c g i
/-- A slot, free to be copied to. -/
def free (c : Dev nD) (s : Fin 2) : sProp 𝕄 := bigSep Finset.univ fun i : Fin 4 => iprop(∃ f, bPts (F := F) c s i f)
/-- That group `g`'s copies are under way. -/
def coming (c : Dev nD) (g : Fin 8) : sProp 𝕄 := bigSep Finset.univ (fetched (F := F) c g)
/-- That device `c` is before the round of group `g`'s copies; -/
abbrev wAt (c : Dev nD) (g : Fin 8) : sProp 𝕄 := atPos (ER (F := F)) (wCell c g) (g.val / 2) ∅ 0
/-- and after it. -/
abbrev wPast (c : Dev nD) (g : Fin 8) : sProp 𝕄 := atPos (ER (F := F)) (wCell c g) (g.val / 2 + 1) ∅ 0

theorem fetchRes_intro (c : Dev nD) (g : Fin 8) (s : Fin 2) (hs : par g = s) :
    iprop(wTok ws c g ∗ free (F := F) c s) ⊢ bigSep Finset.univ (fetchRes ws c g) := by
  subst hs
  unfold wTok free
  rw [← bigSep_pair]
  refine each fun i _ => ?_
  unfold fetchRes
  iintro ⟨⟨H1, H2⟩, H3⟩
  isplitl [H1]; · iexact H1
  isplitl [H2] <;> iassumption

theorem wPay_eq (c : Dev nD) (g : Fin 8) : bigSep Finset.univ (wPay ws c g) = iprop(bBlk ws c g ∗ wBlk ws c g) := by
  unfold bBlk wBlk; rw [← bigSep_pair]; rfl

theorem free_intro (c : Dev nD) (g : Fin 8) : bBlk ws c g ⊢ free (F := F) c (par g) := by
  unfold bBlk free
  refine each fun i _ => ?_
  iintro H; iexists _; iexact H

/-- A group's copies, from a free slot. -/
theorem wp_start (c : Dev nD) (g : Fin 8) (s : Fin 2) (hs : par g = s) :
    iprop(records xs ws ∗ reached (ER (F := F)) (wCell c g) (g.val / 2) ∗ wTok ws c g ∗ free (F := F) c s)
      ⊢ runs c (fetch (F := F) c g) fun _ => coming (F := F) c g := by
  refine BI.Entails.trans ?_ (wp_fetch xs ws c g)
  exact sep_mono_right (sep_mono_right (fetchRes_intro ws c g s hs))

/-- A group's waits for its weights. -/
theorem wp_arrive (c : Dev nD) (g : Fin 8) :
    iprop(records xs ws ∗ coming (F := F) c g ∗ wAt (F := F) c g ∗ owing c 0)
      ⊢ runs c (fetchWaits (F := F) c g) fun _ => iprop((bBlk ws c g ∗ wBlk ws c g)
        ∗ wPast (F := F) c g ∗ reached (ER (F := F)) (wCell c g) (g.val / 2 + 1) ∗ owing c 0) := by
  have h := wp_fetchWaits xs ws c g
  rw [wPay_eq] at h
  exact h

/-- Waits for a run of blocks of `x`. -/
theorem wp_blocks (c : Dev nD) (n k : ℕ) (hk : 1 ≤ k) (h : k + n ≤ 32) :
    iprop(records xs ws ∗ bigSep (seg 32 k n) (recvPre (F := F) c) ∗ owing c 0)
      ⊢ runs c (stepsFrom (recvWait (F := F)) n k h) fun _ => iprop(bigSep (seg 32 k n) (recvPost xs c) ∗ owing c 0) :=
  wp_steps (R := fun _ => owing c 0) n k h fun o h₁ _ => wp_recv xs ws c fun e => by rw [e] at h₁; exact absurd h₁ (by show ¬ k ≤ 0; omega)

theorem recvPost_eq (c : Dev nD) (s : Finset (Fin 32)) :
    bigSep s (recvPost xs c) = iprop(bigSep s (fun o => rPts c o (xRow xs c)) ∗ bigSep s (fun o => (semVal (recvCell c o) 0 : sProp 𝕄))) := by
  rw [← bigSep_pair]; rfl

theorem xBlk_seg (c : Dev nD) (g : Fin 8) : bigSep (seg 32 (4 * g.val) 4) (fun o => rPts c o (xRow xs c)) = xBlk xs c g := seg_off g _

/-- A middle group, up to its product's being added. -/
theorem wp_mid (c : Dev nD) (g : Fin 8) (k : ℕ) (hk : g.val = k + 1) :
    iprop(records xs ws ∗ coming (F := F) c g ∗ wAt (F := F) c g ∗ bigSep (seg 32 (4 * g.val) 4) (recvPre (F := F) c)
        ∗ oPts c (acc xs (ws c) c k) ∗ owing c 0)
      ⊢ runs c (mid (F := F) c g) fun _ => iprop(wBlk ws c g ∗ free (F := F) c (par g) ∗ wPast (F := F) c g
        ∗ reached (ER (F := F)) (wCell c g) (g.val / 2 + 1) ∗ bigSep (seg 32 (4 * g.val) 4) (recvPost xs c)
        ∗ oPts c (acc xs (ws c) c (k + 1)) ∗ owing c 0) := by
  unfold mid
  iintro ⟨#HR, Hc, Hat, Hr, Ho, HO⟩
  iapply (seq (wp_arrive xs ws c g)) $$ [Hc Hat HO]
  · isplitr; · iexact HR
    isplitl [Hc]; · iexact Hc
    isplitl [Hat] <;> iassumption
  iintro %_
  iintro ⟨⟨Hb, Hw⟩, Hat, #Hrd, HO⟩
  have hb := wp_blocks xs ws c 4 (4 * g.val) (by omega) (by omega)
  iapply (seq hb) $$ [Hr HO]
  · isplitr; · iexact HR
    isplitl [Hr] <;> iassumption
  iintro %_
  rw [recvPost_eq, xBlk_seg]
  iintro ⟨⟨Hx, Hz⟩, HO⟩
  iapply (wp_wand _ _ _) $$ [Hx Hb Ho]
  · iapply (wp_midDot xs ws c g k hk)
    isplitl [Hx]; · iexact Hx
    isplitl [Hb] <;> iassumption
  iintro %_
  iintro ⟨Hx, Hb, Ho⟩
  isplitl [Hw]; · iexact Hw
  isplitl [Hb]; · iapply (free_intro ws c g); iexact Hb
  isplitl [Hat]; · iexact Hat
  isplitr; · iexact Hrd
  isplitl [Hx Hz]
  · isplitl [Hx] <;> iassumption
  isplitl [Ho] <;> iassumption

/-- Two groups on is the same semaphore, -/
theorem wCell_next (c : Dev nD) {g : Fin 8} (h : g.val < 6) : wCell c (g + 2) = wCell c g := by
  have e : wS (g + 2) = wS g := Fin.ext (by
    rw [wS_val, wS_val, show (g + 2).val = g.val + 2 from by rw [Fin.val_add]; show (g.val + 2) % 8 = _; omega]; omega)
  unfold wCell; rw [e]
/-- a round later, -/
theorem round_next {g : Fin 8} (h : g.val < 6) : (g + 2).val / 2 = g.val / 2 + 1 := by
  rw [Fin.val_add]; show (g.val + 2) % 8 / 2 = _; omega
/-- and the same slot. -/
theorem par_next (g : Fin 8) : par (g + 2) = par g := by revert g; decide

theorem reached_next (c : Dev nD) {g : Fin 8} (h : g.val < 6) :
    reached (ER (F := F)) (wCell c (g + 2)) ((g + 2).val / 2) = reached (ER (F := F)) (wCell c g) (g.val / 2 + 1) := by
  rw [wCell_next c h, round_next h]
theorem wAt_next (c : Dev nD) {g : Fin 8} (h : g.val < 6) : wAt (F := F) c (g + 2) = wPast (F := F) c g := by
  unfold wAt wPast; rw [wCell_next c h, round_next h]

/-- Between groups: the result so far, and the copies of the next two groups under way. -/
def between (c : Dev nD) (k : ℕ) : sProp 𝕄 :=
  iprop(owing c 0 ∗ oPts c (acc xs (ws c) c (k - 1)) ∗ coming (F := F) c (Fin.ofNat 8 k) ∗ wAt (F := F) c (Fin.ofNat 8 k)
    ∗ coming (F := F) c (Fin.ofNat 8 (k + 1)) ∗ wAt (F := F) c (Fin.ofNat 8 (k + 1)))

/-- What a middle group takes, -/
def midPre (c : Dev nD) (g : Fin 8) : sProp 𝕄 := iprop(wTok ws c (g + 2) ∗ bigSep (seg 32 (4 * g.val) 4) (recvPre (F := F) c))
/-- and gives. -/
def midPost (c : Dev nD) (g : Fin 8) : sProp 𝕄 := iprop(wBlk ws c g ∗ bigSep (seg 32 (4 * g.val) 4) (recvPost xs c))

/-- A middle group, with the copies it makes room for. -/
theorem wp_midFetch (c : Dev nD) (g : Fin 8) (h₁ : 1 ≤ g.val) (h₆ : g.val < 6) :
    iprop(records xs ws ∗ midPre ws c g ∗ between xs ws c g.val)
      ⊢ runs c (midFetch (F := F) c g) fun _ => iprop(midPost xs ws c g ∗ between xs ws c (g.val + 1)) := by
  unfold midFetch midPre midPost between
  have e₀ : Fin.ofNat 8 g.val = g := Fin.ext (Nat.mod_eq_of_lt g.isLt)
  have e₂ : Fin.ofNat 8 (g.val + 1 + 1) = g + 2 := Fin.ext (by
    rw [Fin.val_add]; rfl)
  rw [e₀, e₂, wAt_next c h₆]
  iintro ⟨#HR, ⟨Ht, Hr⟩, HO, Ho, Hc, Hat, Hc', Hat'⟩
  iapply (seq (wp_mid xs ws c g (g.val - 1) (by omega))) $$ [Hc Hat Hr Ho HO]
  · isplitr; · iexact HR
    isplitl [Hc]; · iexact Hc
    isplitl [Hat]; · iexact Hat
    isplitl [Hr]; · iexact Hr
    isplitl [Ho] <;> iassumption
  iintro %_
  iintro ⟨Hw, Hf, Hat, #Hrd, Hr, Ho, HO⟩
  iapply (wp_wand _ _ _) $$ [Ht Hf]
  · iapply (wp_start xs ws c (g + 2) (par g) (par_next g))
    isplitr; · iexact HR
    isplitr; · rw [reached_next c h₆]; iexact Hrd
    isplitl [Ht] <;> iassumption
  iintro %_
  iintro Hc
  isplitl [Hw Hr]
  · isplitl [Hw] <;> iassumption
  isplitl [HO]; · iexact HO
  isplitl [Ho]; · rw [show g.val + 1 - 1 = g.val - 1 + 1 by omega]; iexact Ho
  isplitl [Hc']; · iexact Hc'
  isplitl [Hat']; · iexact Hat'
  isplitl [Hc] <;> iassumption

/-- The middle groups. -/
theorem wp_middle (c : Dev nD) :
    iprop(records xs ws ∗ bigSep (seg 8 1 5) (midPre ws c) ∗ between xs ws c 1)
      ⊢ runs c (stepsFrom (midFetch (F := F) c) 5 1 (by omega)) fun _ => iprop(bigSep (seg 8 1 5) (midPost xs ws c) ∗ between xs ws c 6) :=
  wp_steps (R := between xs ws c) 5 1 (by omega) fun g h₁ h₂ => wp_midFetch xs ws c g h₁ h₂

end Cert.Groups

end
-- ==== Proof.Body.lean ====
/-
# The body

The body on one device, from the resources the launch gives it to those it gives back, put together from its loops.
-/
module

public import proofs.«01_k».proof.Proof.Groups

@[expose] public section

set_option backward.proofsInPublic true

noncomputable section

namespace Cert.Body

open Cert.KernelIdeal Cert.KernelIdeal.Gen Cert.Steps Cert.Offsets Cert.Contents Cert.Schedule Cert.Loops Cert.Transfers Cert.Weights Cert.Dots Cert.Groups
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-! ## How the offsets and the groups are divided among the loops -/

/-- The offsets but 0: the first group's, the middle groups', the last two groups'. -/
theorem split_offsets (Φ : Fin 32 → sProp 𝕄) :
    bigSep (seg 32 1 31) Φ = iprop(bigSep (seg 32 1 3) Φ ∗ bigSep (seg 8 1 5) (fun g => bigSep (seg 32 (4 * g.val) 4) Φ)
      ∗ bigSep (seg 32 24 4) Φ ∗ bigSep (seg 32 28 4) Φ) := by
  rw [seg_groups Φ 5 1 (by omega), bigSep_seg_append 1 3 28, bigSep_seg_append (1 + 3) 20 8, bigSep_seg_append (1 + 3 + 20) 4 4]

/-- The groups: the first, the middle ones, the last two. -/
theorem split_groups (Φ : Fin 8 → sProp 𝕄) :
    bigSep Finset.univ Φ = iprop(Φ 0 ∗ bigSep (seg 8 1 5) Φ ∗ Φ 6 ∗ Φ 7) := by
  rw [bigSep_univ_head, bigSep_seg_append 1 5 2, bigSep_seg_succ (show 6 < 8 by omega), show seg 8 (6 + 1) 1 = {7} by decide, bigSep_singleton]; rfl

theorem two_on_injective : Function.Injective fun g : Fin 8 => g + 2 := by decide

/-- The groups by when their copies start: the first three, and one per middle group. -/
theorem split_starts (Φ : Fin 8 → sProp 𝕄) :
    bigSep Finset.univ Φ = iprop(Φ 0 ∗ Φ 1 ∗ Φ 2 ∗ bigSep (seg 8 1 5) fun g => Φ (g + 2)) := by
  rw [bigSep_univ_head, bigSep_seg_succ (show 1 < 8 by omega), bigSep_seg_succ (show 1 + 1 < 8 by omega),
    show seg 8 (1 + 1 + 1) 5 = (seg 8 1 5).map ⟨fun g => g + 2, two_on_injective⟩ by decide, bigSep_map]; rfl

/-! ## The body's resources -/

/-- The duties of the send of offset `o`. -/
def sendTok (c : Dev nD) (o : Fin 32) : sProp 𝕄 :=
  iprop(dutyTok (ER (F := F)) (sendCell c o) 0 0 ∗ dutyTok (ER (F := F)) (recvCell (fwd c o) o) 0 0)
/-- That device `c` is before the wait for its send of offset `o`. -/
def sentAt (c : Dev nD) (o : Fin 32) : sProp 𝕄 := atPos (ER (F := F)) (sendCell c o) 0 ∅ 0

/-- What the body starts from. -/
def pre (c : Dev nD) : sProp 𝕄 :=
  iprop(bigSep (seg 32 1 31) (sigRes (F := F) c)
    ∗ (cred (tallyAt (barCell c) () 31) ∗ atPos (ER (F := F)) (barCell c) 0 ∅ 0)
    ∗ (∃ f, rPts (F := F) c 0 f)
    ∗ bigSep (seg 32 1 31) (sendTok (F := F) c)
    ∗ (xPts xs c 0 ∗ bigSep (seg 32 1 31) (xPts xs c))
    ∗ bigSep Finset.univ (wTok ws c)
    ∗ (free (F := F) c 0 ∗ free (F := F) c 1)
    ∗ (wAt (F := F) c 0 ∗ wAt (F := F) c 1)
    ∗ bigSep (seg 32 1 31) (recvPre (F := F) c)
    ∗ bigSep (seg 32 1 31) (sentAt (F := F) c)
    ∗ (∃ f, oPts (F := F) c f)
    ∗ owing c (O₀ c))

/-- What it ends in. -/
def post (c : Dev nD) : sProp 𝕄 :=
  iprop((xPts xs c 0 ∗ bigSep (seg 32 1 31) (sentPost xs c))
    ∗ (rPts c 0 (xRow xs c) ∗ bigSep (seg 32 1 31) (recvPost xs c))
    ∗ bigSep Finset.univ (wBlk ws c)
    ∗ (free (F := F) c 0 ∗ free (F := F) c 1)
    ∗ (wPast (F := F) c 6 ∗ wPast (F := F) c 7)
    ∗ semVal (barCell c) 0
    ∗ oPts c (outVal xs (ws c) c)
    ∗ owing c 0)

theorem ne_zero_of_seg {o : Fin 32} (h : 1 ≤ o.val) : o ≠ 0 := fun e => by rw [e] at h; exact absurd h (by decide)

/-- The signals. -/
theorem wp_signals (c : Dev nD) :
    iprop(records xs ws ∗ bigSep (seg 32 1 31) (sigRes (F := F) c) ∗ owing c (O₀ c))
      ⊢ runs c (stepsFrom (sigStep (F := F) c) 31 1 (by omega)) fun _ => owing c (owedRecv c 1) := by
  have h := wp_steps (N := 32) (c := c) (P := records xs ws) (A := sigRes (F := F) c) (B := fun _ => iprop(emp))
    (R := fun k => owing c (owedBar c k + owedRecv c 1)) (f := sigStep (F := F) c) 31 1 (by omega)
    (fun o h₁ _ => wp_sig xs ws c (ne_zero_of_seg h₁))
  unfold O₀
  iintro H
  iapply (wp_wand _ _ _) $$ [H]
  · iapply h; iexact H
  iintro %_
  rw [show 1 + 31 = 32 from rfl, owedBar_end, zero_add]
  iintro ⟨-, H⟩; iexact H

theorem sendRes_intro (c : Dev nD) (s : Finset (Fin 32)) :
    iprop(bigSep s (xPts xs c) ∗ bigSep s (barPay (F := F) c) ∗ bigSep s (sendTok (F := F) c)) ⊢ bigSep s (sendRes xs c) := by
  rw [← bigSep_pair, ← bigSep_pair]; exact BI.Entails.refl _

/-- The sends. -/
theorem wp_sends (c : Dev nD) :
    iprop(records xs ws ∗ (bigSep (seg 32 1 31) (xPts xs c) ∗ bigSep (seg 32 1 31) (barPay (F := F) c) ∗ bigSep (seg 32 1 31) (sendTok (F := F) c))
        ∗ owing c (owedRecv c 1))
      ⊢ runs c (stepsFrom (sendStep (F := F) c) 31 1 (by omega)) fun _ =>
        iprop(bigSep (seg 32 1 31) (fun o => (cred (tallyAt (sendCell c o) () NX) : sProp 𝕄)) ∗ owing c 0) := by
  have h := wp_steps (N := 32) (c := c) (P := records xs ws) (A := sendRes xs c) (B := fun o => cred (tallyAt (sendCell c o) () NX))
    (R := fun k => owing c (owedRecv c k)) (f := sendStep (F := F) c) 31 1 (by omega)
    (fun o h₁ _ => wp_send xs ws c (ne_zero_of_seg h₁))
  rw [show owedRecv c (1 + 31) = 0 from owedRecv_end c] at h
  exact (sep_mono_right (sep_mono_left (sendRes_intro xs c _))).trans h

/-- The waits for the sends. -/
theorem wp_sents (c : Dev nD) :
    iprop(records xs ws ∗ (bigSep (seg 32 1 31) (fun o => (cred (tallyAt (sendCell c o) () NX) : sProp 𝕄)) ∗ bigSep (seg 32 1 31) (sentAt (F := F) c)) ∗ owing c 0)
      ⊢ runs c (stepsFrom (sendWait (F := F) c) 31 1 (by omega)) fun _ => iprop(bigSep (seg 32 1 31) (sentPost xs c) ∗ owing c 0) := by
  have h := wp_steps (N := 32) (c := c) (P := records xs ws) (A := sentPre (F := F) c) (B := sentPost xs c)
    (R := fun _ => owing c 0) (f := sendWait (F := F) c) 31 1 (by omega)
    (fun o h₁ _ => wp_sent xs ws c (ne_zero_of_seg h₁))
  rw [← bigSep_pair]
  exact h

/-- The body. -/
theorem wp_body (c : Dev nD) :
    iprop(records xs ws ∗ levAts L lv ∗ pre xs ws c) ⊢ runs c (Steps.body (F := F) c) fun _ => post xs ws c := by
  unfold Steps.body pre
  rw [split_starts, split_offsets (recvPre (F := F) c)]
  iintro ⟨#HR, #Hlev, Hsig, ⟨Hcb, Hab⟩, Hr0, Hst, ⟨Hx0, Hx⟩, ⟨Ht0, Ht1, Ht2, Htm⟩, ⟨Hf0, Hf1⟩, ⟨Hw0, Hw1⟩,
    ⟨Hp0, Hpm, Hp6, Hp7⟩, Hsa, ⟨%fo, Ho⟩, HO⟩
  ihave Hrec0 := (rec_w xs ws c 0) $$ HR
  ihave Hrec1 := (rec_w xs ws c 1) $$ HR
  unfold record
  icases Hrec0 with ⟨-, #Hr00⟩
  icases Hrec1 with ⟨-, #Hr10⟩
  -- the signals, and the wait for the others'
  iapply (seq (wp_signals xs ws c)) $$ [Hsig HO]
  · isplitr; · iexact HR
    isplitl [Hsig] <;> iassumption
  iintro %_; iintro HO
  iapply (seq (wp_bar xs ws c)) $$ [Hcb Hab HO]
  · isplitr; · iexact HR
    isplitr; · iexact Hlev
    isplitl [Hcb]; · iexact Hcb
    isplitl [Hab] <;> iassumption
  iintro %_; iintro ⟨HO, Hzb, Hbp⟩
  -- the sends, and the device's own rows
  iapply (seq (wp_sends xs ws c)) $$ [Hx Hbp Hst HO]
  · isplitr; · iexact HR
    isplitl [Hx Hbp Hst]
    · isplitl [Hx]; · iexact Hx
      isplitl [Hbp] <;> iassumption
    iexact HO
  iintro %_; iintro ⟨Hcs, HO⟩
  iapply (seq (wp_own xs c)) $$ [Hx0 Hr0]
  · isplitl [Hx0] <;> iassumption
  iintro %_; iintro ⟨Hx0, Hr0⟩
  -- the first two groups' copies
  iapply (seq (wp_start xs ws c 0 0 rfl)) $$ [Ht0 Hf0]
  · isplitr; · iexact HR
    isplitr; · iexact Hr00
    isplitl [Ht0] <;> iassumption
  iintro %_; iintro Hc0
  iapply (seq (wp_start xs ws c 1 1 rfl)) $$ [Ht1 Hf1]
  · isplitr; · iexact HR
    isplitr; · iexact Hr10
    isplitl [Ht1] <;> iassumption
  iintro %_; iintro Hc1
  -- the first group
  iapply (seq (wp_arrive xs ws c 0)) $$ [Hc0 Hw0 HO]
  · isplitr; · iexact HR
    isplitl [Hc0]; · iexact Hc0
    isplitl [Hw0] <;> iassumption
  iintro %_; iintro ⟨⟨Hb, Hwb0⟩, Hw0, #Hrd, HO⟩
  have hb := wp_blocks xs ws c 3 1 (by omega) (by omega)
  iapply (seq hb) $$ [Hp0 HO]
  · isplitr; · iexact HR
    isplitl [Hp0] <;> iassumption
  iintro %_
  rw [recvPost_eq xs c (seg 32 1 3)]
  iintro ⟨⟨Hx13, Hz13⟩, HO⟩
  have hx0 : xBlk xs c 0 = iprop(rPts c 0 (xRow xs c) ∗ bigSep (seg 32 1 3) (fun o => rPts c o (xRow xs c))) := by
    rw [← xBlk_seg]; exact bigSep_seg_succ (N := 32) (k := 0) (n := 3) (by omega) _
  iapply (seq (wp_firstDot xs ws c)) $$ [Hr0 Hx13 Hb Ho]
  · rw [hx0]
    isplitl [Hr0 Hx13]
    · isplitl [Hr0] <;> iassumption
    isplitl [Hb]; · iexact Hb
    iexists fo; iexact Ho
  iintro %_
  rw [hx0]
  iintro ⟨⟨Hr0, Hx13⟩, Hb, Ho⟩
  iapply (seq (wp_start xs ws c 2 0 rfl)) $$ [Ht2 Hb]
  · isplitr; · iexact HR
    isplitr
    · iapply (Entails.of_eq (reached_next (F := F) c (g := 0) (by decide)).symm); iexact Hrd
    isplitl [Ht2]; · iexact Ht2
    iapply (free_intro ws c 0); iexact Hb
  iintro %_; iintro Hc2
  -- the middle groups
  iapply (seq (wp_middle xs ws c)) $$ [Htm Hpm HO Ho Hc1 Hw1 Hc2 Hw0]
  · isplitr; · iexact HR
    isplitl [Htm Hpm]
    · unfold midPre
      rw [bigSep_pair]
      isplitl [Htm] <;> iassumption
    unfold between
    isplitl [HO]; · iexact HO
    isplitl [Ho]; · iexact Ho
    isplitl [Hc1]; · iexact Hc1
    isplitl [Hw1]; · iexact Hw1
    isplitl [Hc2]; · iexact Hc2
    iapply (Entails.of_eq (wAt_next (F := F) c (g := 0) (by decide)).symm); iexact Hw0
  iintro %_
  unfold midPost between
  rw [bigSep_pair]
  iintro ⟨⟨Hwbm, Hrm⟩, HO, Ho, Hc6, Hw6, Hc7, Hw7⟩
  -- the last two groups
  iapply (seq (wp_mid xs ws c 6 5 rfl)) $$ [Hc6 Hw6 Hp6 Ho HO]
  · isplitr; · iexact HR
    isplitl [Hc6]; · iexact Hc6
    isplitl [Hw6]; · iexact Hw6
    isplitl [Hp6]; · iexact Hp6
    isplitl [Ho] <;> iassumption
  iintro %_; iintro ⟨Hwb6, Hf0, Hw6, -, Hr6, Ho, HO⟩
  iapply (seq (wp_arrive xs ws c 7)) $$ [Hc7 Hw7 HO]
  · isplitr; · iexact HR
    isplitl [Hc7]; · iexact Hc7
    isplitl [Hw7] <;> iassumption
  iintro %_; iintro ⟨⟨Hb, Hwb7⟩, Hw7, -, HO⟩
  have hb := wp_blocks xs ws c 4 28 (by omega) (by omega)
  iapply (seq hb) $$ [Hp7 HO]
  · isplitr; · iexact HR
    isplitl [Hp7] <;> iassumption
  iintro %_
  rw [recvPost_eq xs c (seg 32 28 4), show bigSep (seg 32 28 4) (fun o => rPts c o (xRow xs c)) = xBlk xs c 7 from xBlk_seg xs c 7]
  iintro ⟨⟨Hx7, Hz7⟩, HO⟩
  iapply (seq (wp_lastDot xs ws c)) $$ [Hx7 Hb Ho]
  · isplitl [Hx7]; · iexact Hx7
    isplitl [Hb] <;> iassumption
  iintro %_; iintro ⟨Hx7, Hb, Ho⟩
  -- the waits for the sends
  iapply (wp_wand _ _ _) $$ [Hcs Hsa HO]
  · iapply (wp_sents xs ws c)
    isplitr; · iexact HR
    isplitl [Hcs Hsa]
    · isplitl [Hcs] <;> iassumption
    iexact HO
  iintro %_; iintro ⟨Hs, HO⟩
  unfold post
  rw [split_groups, split_offsets (recvPost xs c), recvPost_eq xs c (seg 32 1 3), recvPost_eq xs c (seg 32 28 4),
    show bigSep (seg 32 28 4) (fun o => rPts c o (xRow xs c)) = xBlk xs c 7 from xBlk_seg xs c 7]
  isplitl [Hx0 Hs]
  · isplitl [Hx0] <;> iassumption
  isplitl [Hr0 Hx13 Hz13 Hrm Hr6 Hx7 Hz7]
  · isplitl [Hr0]; · iexact Hr0
    isplitl [Hx13 Hz13]
    · isplitl [Hx13] <;> iassumption
    isplitl [Hrm]; · iexact Hrm
    isplitl [Hr6]; · iexact Hr6
    isplitl [Hx7] <;> iassumption
  isplitl [Hwb0 Hwbm Hwb6 Hwb7]
  · isplitl [Hwb0]; · iexact Hwb0
    isplitl [Hwbm]; · iexact Hwbm
    isplitl [Hwb6] <;> iassumption
  isplitl [Hf0 Hb]
  · isplitl [Hf0]; · iexact Hf0
    iapply (free_intro ws c 7); iexact Hb
  isplitl [Hw6 Hw7]
  · isplitl [Hw6] <;> iassumption
  isplitl [Hzb]; · iexact Hzb
  isplitl [Ho] <;> iassumption

end Cert.Body

end
-- ==== Proof.Buffers.lean ====
/-
# The body from whole buffers to whole buffers

The launch gives the body its buffers whole, its positions in the protocol, the tokens of the signals and copies it
makes and the credit for those it waits for. Here the buffers are cut into the blocks the body works on and joined again
after it, and the semaphores nobody signals are closed, so that the body's specification speaks of whole buffers alone.
-/
module

public import proofs.«01_k».proof.Proof.Body
public import Idealize.ShloMosaic.Lib.Ring

@[expose] public section

set_option backward.proofsInPublic true

noncomputable section

namespace Cert.Buffers

open Cert.KernelIdeal Cert.KernelIdeal.Gen Cert.Steps Cert.Offsets Cert.Contents Cert.Schedule Cert.Loops Cert.Transfers Cert.Weights Cert.Dots Cert.Groups Cert.Body
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-! ## Buffers and their blocks -/

/-- The staged columns of `x`, whole; -/
def xPt (c : Dev nD) : sProp 𝕄 := ((c : Thread nD τ).loc cc0_stg0_0) ↦{fullShare} xs c
/-- the weights, whole; -/
def wPt (c : Dev nD) : sProp 𝕄 := ((c : Thread nD τ).loc main_arg1) ↦{fullShare} ws c
/-- the assembled rows, whole at some contents; -/
def rPt (c : Dev nD) : sProp 𝕄 := iprop(∃ f : Vec F S128x4096 .f32, ((c : Thread nD τ).loc cc0_scratch0) ↦{fullShare} f)
/-- the slots, whole at some contents. -/
def bPt (c : Dev nD) : sProp 𝕄 := iprop(∃ f : Vec F S2x512x8192 .f32, ((c : Thread nD τ).loc cc0_scratch1) ↦{fullShare} f)

theorem x_blocks (c : Dev nD) : xPt xs c = iprop(xPts xs c 0 ∗ bigSep (seg 32 1 31) (xPts xs c)) := by
  rw [← bigSep_univ_head (xPts xs c)]
  exact Ring.pointsTo_blocks (ℓ := (c : Thread nD τ).loc cc0_stg0_0) (fun o => xSet (fwd c o)) (fun o o' h => xSet_disjoint fun e => h (fwd_inj e)) (xSet_cover c) (xs c)

theorem w_blocks (c : Dev nD) : wPt ws c = bigSep Finset.univ (wBlk ws c) := by
  refine (Ring.pointsTo_blocks (ℓ := (c : Thread nD τ).loc main_arg1) (fun gi : Fin 8 × Fin 4 => wSet (bwd c (off gi.1 gi.2)))
    (fun a b h => wSet_disjoint fun e => h (offEquiv.injective (bwd_inj e))) (wSet_cover c) (ws c)).trans ?_
  rw [bigSep_univ_prod]; rfl

theorem r_blocks (c : Dev nD) (f : Vec F S128x4096 .f32) :
    ((((c : Thread nD τ).loc cc0_scratch0) ↦{fullShare} f : sProp 𝕄)) = bigSep Finset.univ fun o => rPts c o f :=
  Ring.pointsTo_blocks (ℓ := (c : Thread nD τ).loc cc0_scratch0) rSet (fun _ _ h => rSet_disjoint h) rSet_cover f

/-- Before the body, a block goes to each device that will fill it; -/
theorem r_split (c : Dev nD) : rPt (F := F) c ⊢ iprop((∃ f, rPts (F := F) c 0 f) ∗ bigSep (seg 32 1 31) (fun o => iprop(∃ f, rPts (F := F) c (neg o) f))) := by
  unfold rPt
  iintro ⟨%f, H⟩
  ihave H := (Entails.of_eq ((r_blocks c f).trans ((bigSep_univ_equiv negEquiv _).trans (bigSep_univ_head _)))) $$ H
  icases H with ⟨H0, H⟩
  isplitl [H0]
  · iexists f; iexact H0
  iapply (each (Φ := fun o => rPts c (neg o) f) fun o _ => by
    iintro H; iexists f; iexact H)
  iexact H

/-- and after it they are joined. -/
theorem r_join (c : Dev nD) : iprop(rPts c 0 (xRow xs c) ∗ bigSep (seg 32 1 31) (fun o => rPts c o (xRow xs c))) ⊢ rPt (F := F) c := by
  rw [← bigSep_univ_head (fun o => rPts c o (xRow xs c)), ← r_blocks]
  unfold rPt
  iintro H; iexists (xRow xs c); iexact H

theorem free_both (c : Dev nD) :
    bigSep Finset.univ (fun si : Fin 2 × Fin 4 => iprop(∃ f, bPts (F := F) c si.1 si.2 f)) = iprop(free (F := F) c 0 ∗ free (F := F) c 1) := by
  rw [bigSep_univ_prod]
  exact bigSep_W0 fun s => free (F := F) c s

theorem b_split (c : Dev nD) : bPt (F := F) c ⊢ iprop(free (F := F) c 0 ∗ free (F := F) c 1) := by
  unfold bPt
  rw [← free_both]
  iintro ⟨%f, H⟩
  ihave H := (Entails.of_eq (Ring.pointsTo_blocks (ℓ := (c : Thread nD τ).loc cc0_scratch1) (fun si : Fin 2 × Fin 4 => bSet si.1 si.2) (fun _ _ h => bSet_disjoint h) bSet_cover f)) $$ H
  iapply (each (Φ := fun si : Fin 2 × Fin 4 => bPts c si.1 si.2 f) fun si _ => by
    iintro H; iexists f; iexact H)
  iexact H

theorem b_join (c : Dev nD) (w : Vec F S4096x8192 .f32) : iprop(free (F := F) c 0 ∗ free (F := F) c 1) ⊢ bPt (F := F) c := by
  rw [← free_both]
  exact Ring.pointsTo_blocks_join_exists (ℓ := (c : Thread nD τ).loc cc0_scratch1) (fun si : Fin 2 × Fin 4 => bSet si.1 si.2) (fun _ _ h => bSet_disjoint h) bSet_cover
    (wBuf w c 0)

/-! ## What a device starts with, beside its buffers -/

/-- That device `c` is before the wait for the block from `o` back. -/
def recvAt (c : Dev nD) (o : Fin 32) : sProp 𝕄 := atPos (ER (F := F)) (recvCell c o) 0 ∅ 0
/-- The token of the signal to the device `o` further on, -/
def sigTok (c : Dev nD) (o : Fin 32) : sProp 𝕄 := dutyTok (ER (F := F)) (barCell (fwd c o)) 0 (neg o)
/-- those of group `g`'s copies. -/
def wToks (c : Dev nD) (g : Fin 8) : sProp 𝕄 := bigSep Finset.univ fun i : Fin 4 => dutyTok (ER (F := F)) (wCell c g) (g.val / 2) (dutyOf i)

/-- Where a device is on each of its semaphores: at the start; -/
def places (c : Dev nD) : sProp 𝕄 :=
  iprop(atPos (ER (F := F)) (barCell c) 0 ∅ 0 ∗ bigSep Finset.univ (sentAt (F := F) c) ∗ bigSep Finset.univ (recvAt (F := F) c)
    ∗ wAt (F := F) c 0 ∗ wAt (F := F) c 1)
/-- the tokens of what it signals and copies; -/
def tokens (c : Dev nD) : sProp 𝕄 :=
  iprop(bigSep Finset.univ (sigTok (F := F) c) ∗ bigSep Finset.univ (sendTok (F := F) c) ∗ bigSep Finset.univ (wToks (F := F) c))
/-- the credit for what it waits for. -/
def credits (c : Dev nD) : sProp 𝕄 :=
  iprop(cred (tallyAt (barCell c) () 31) ∗ bigSep (seg 32 1 31) fun o => cred (tallyAt (recvCell c o) () NX))

/-- Every semaphore back at zero. -/
def zeros (c : Dev nD) : sProp 𝕄 :=
  iprop(semVal (barCell c) 0 ∗ bigSep Finset.univ (fun o => semVal (sendCell c o) 0) ∗ bigSep Finset.univ (fun o => semVal (recvCell c o) 0)
    ∗ semVal (wCell c 0) 0 ∗ semVal (wCell c 1) 0)

theorem wTok_intro (c : Dev nD) : iprop(bigSep Finset.univ (wToks (F := F) c) ∗ wPt ws c) ⊢ bigSep Finset.univ (wTok ws c) := by
  rw [w_blocks, ← bigSep_pair]
  refine each fun g _ => ?_
  unfold wToks wBlk wTok
  rw [← bigSep_pair]

/-- What the launch gives is what the body starts from, and the places at the two semaphores nobody signals. -/
theorem prepare (c : Dev nD) :
    iprop((places (F := F) c ∗ tokens (F := F) c ∗ credits (F := F) c) ∗ wPt ws c ∗ rPt (F := F) c ∗ bPt (F := F) c ∗ xPt xs c
        ∗ (∃ f, oPts (F := F) c f) ∗ owing c (O₀ c))
      ⊢ iprop(pre xs ws c ∗ sentAt (F := F) c 0 ∗ recvAt (F := F) c 0) := by
  unfold places tokens credits pre
  rw [x_blocks, bigSep_univ_head (sentAt (F := F) c), bigSep_univ_head (recvAt (F := F) c), bigSep_univ_head (sigTok (F := F) c),
    bigSep_univ_head (sendTok (F := F) c)]
  iintro ⟨⟨⟨HatB, ⟨HatS0, HatS⟩, ⟨HatR0, HatR⟩, HatW⟩, ⟨⟨-, HtB⟩, ⟨-, HtS⟩, HtW⟩, HcB, HcR⟩, Hw, Hr, Hb, Hx, Ho, HO⟩
  ihave Hr := (r_split c) $$ Hr
  icases Hr with ⟨Hr0, Hr⟩
  isplitr [HatS0 HatR0]
  · isplitl [HtB Hr]
    · iapply (show iprop(bigSep (seg 32 1 31) (sigTok (F := F) c) ∗ bigSep (seg 32 1 31) (fun o => iprop(∃ f, rPts (F := F) c (neg o) f)))
        ⊢ bigSep (seg 32 1 31) (sigRes (F := F) c) from by rw [← bigSep_pair]; exact BI.Entails.refl _)
      isplitl [HtB] <;> iassumption
    isplitl [HcB HatB]
    · isplitl [HcB] <;> iassumption
    isplitl [Hr0]; · iexact Hr0
    isplitl [HtS]; · iexact HtS
    isplitl [Hx]; · iexact Hx
    isplitl [HtW Hw]
    · iapply (wTok_intro ws c); isplitl [HtW] <;> iassumption
    isplitl [Hb]; · iapply (b_split c); iexact Hb
    isplitl [HatW]; · iexact HatW
    isplitl [HcR HatR]
    · iapply (show iprop(bigSep (seg 32 1 31) (fun o => (cred (tallyAt (recvCell c o) () NX) : sProp 𝕄)) ∗ bigSep (seg 32 1 31) (recvAt (F := F) c))
        ⊢ bigSep (seg 32 1 31) (recvPre (F := F) c) from by rw [← bigSep_pair]; exact BI.Entails.refl _)
      isplitl [HcR] <;> iassumption
    isplitl [HatS]; · iexact HatS
    isplitl [Ho] <;> iassumption
  isplitl [HatS0] <;> iassumption

/-! ## Afterwards -/

/-- A semaphore whose rounds are over is at zero. -/
theorem close {g : GSem nD τ sig} {R : ℕ} (hR : ∀ r, R ≤ r → (sched (F := F) xs ws).duties g r = ∅) :
    iprop(record xs ws g ∗ atPos (ER (F := F)) g R ∅ 0) ⊢ |={Set.univ}=> semVal g 0 := by
  unfold record
  iintro ⟨⟨⟨%κ, H⟩, -⟩, Hat⟩
  iapply (Rounds.cell_close ER (sched (F := F) xs ws) (Set.mem_univ κ) (fun h => h) hR)
  isplitl [H] <;> iassumption

theorem wCell_6 (c : Dev nD) : wCell c 6 = wCell c 0 := congrArg (fun s => ((c : Thread nD τ), SemLoc.dma s)) (show wS 6 = wS 0 by decide +kernel)
theorem wCell_7 (c : Dev nD) : wCell c 7 = wCell c 1 := congrArg (fun s => ((c : Thread nD τ), SemLoc.dma s)) (show wS 7 = wS 1 by decide +kernel)

/-- What the body ends in is whole buffers and semaphores at zero. -/
theorem collect (c : Dev nD) :
    iprop(records xs ws ∗ Body.post xs ws c ∗ sentAt (F := F) c 0 ∗ recvAt (F := F) c 0)
      ⊢ |={Set.univ}=> iprop(zeros (F := F) c ∗ wPt ws c ∗ rPt (F := F) c ∗ bPt (F := F) c ∗ xPt xs c ∗ oPts c (outVal xs (ws c) c) ∗ owing c 0) := by
  unfold Body.post zeros
  rw [bigSep_univ_head (fun o => (semVal (sendCell c o) 0 : sProp 𝕄)), bigSep_univ_head (fun o => (semVal (recvCell c o) 0 : sProp 𝕄)),
    show bigSep (seg 32 1 31) (sentPost xs c) = iprop(bigSep (seg 32 1 31) (xPts xs c) ∗ bigSep (seg 32 1 31) (fun o => (semVal (sendCell c o) 0 : sProp 𝕄)))
      from bigSep_pair _ _ _,
    show bigSep (seg 32 1 31) (recvPost xs c) = iprop(bigSep (seg 32 1 31) (fun o => rPts c o (xRow xs c)) ∗ bigSep (seg 32 1 31) (fun o => (semVal (recvCell c o) 0 : sProp 𝕄)))
      from bigSep_pair _ _ _, w_blocks, x_blocks]
  iintro ⟨#HR, ⟨⟨Hx0, Hx, HzS⟩, ⟨Hr0, Hr, HzR⟩, Hw, Hb, ⟨Hw6, Hw7⟩, HzB, Ho, HO⟩, HatS, HatR⟩
  imod (close xs ws (never_send xs ws c)) $$ [HatS] with HzS0
  · isplitr
    · iapply (rec_send xs ws c 0); iexact HR
    unfold sentAt; iexact HatS
  imod (close xs ws (never_recv xs ws c)) $$ [HatR] with HzR0
  · isplitr
    · iapply (rec_recv xs ws c 0); iexact HR
    unfold recvAt; iexact HatR
  imod (close xs ws (later_w xs ws c 6)) $$ [Hw6] with HzW6
  · isplitr
    · iapply (rec_w xs ws c 6); iexact HR
    iexact Hw6
  imod (close xs ws (later_w xs ws c 7)) $$ [Hw7] with HzW7
  · isplitr
    · iapply (rec_w xs ws c 7); iexact HR
    iexact Hw7
  imodintro
  isplitl [HzB HzS HzS0 HzR HzR0 HzW6 HzW7]
  · isplitl [HzB]; · iexact HzB
    isplitl [HzS HzS0]
    · isplitl [HzS0] <;> iassumption
    isplitl [HzR HzR0]
    · isplitl [HzR0] <;> iassumption
    rw [← wCell_6, ← wCell_7]
    isplitl [HzW6] <;> iassumption
  isplitl [Hw]; · iexact Hw
  isplitl [Hr0 Hr]
  · iapply (r_join xs c); isplitl [Hr0] <;> iassumption
  isplitl [Hb]; · iapply (b_join c (ws c)); iexact Hb
  isplitl [Hx0 Hx]
  · isplitl [Hx0] <;> iassumption
  isplitl [Ho] <;> iassumption

/-- The body, from whole buffers to whole buffers: the staged columns, the weights and the result at their contents. -/
theorem wp_whole (c : Dev nD) :
    iprop(records xs ws ∗ levAts L lv ∗ (places (F := F) c ∗ tokens (F := F) c ∗ credits (F := F) c) ∗ wPt ws c ∗ rPt (F := F) c ∗ bPt (F := F) c
        ∗ xPt xs c ∗ (∃ f, oPts (F := F) c f) ∗ owing c (O₀ c))
      ⊢ runs c (Steps.body c) fun _ => iprop(zeros (F := F) c ∗ wPt ws c ∗ rPt (F := F) c ∗ bPt (F := F) c ∗ xPt xs c
        ∗ oPts c (outVal xs (ws c) c) ∗ owing c 0) := by
  iintro ⟨#HR, #Hlev, H⟩
  ihave H := (prepare xs ws c) $$ H
  icases H with ⟨H, Hats⟩
  iapply (wp_fupd _ _ _)
  iapply (wp_wand _ _ _) $$ [H]
  · iapply (wp_body xs ws c)
    isplitr; · iexact HR
    isplitr; · iexact Hlev
    iexact H
  iintro %_
  iintro H
  iapply (collect xs ws c)
  isplitr; · iexact HR
  isplitl [H] <;> iassumption

end Cert.Buffers

end
-- ==== Proof.Dealing.lean ====
/-
# Dealing out the protocol

At the launch every semaphore in use is given its record, and each device its places, the tokens of the signals and
copies it makes — those it makes to other devices' semaphores are passed to it from them — and the credit for what it
waits for.
-/
module

public import proofs.«01_k».proof.Proof.Buffers

@[expose] public section

set_option backward.proofsInPublic true

noncomputable section

namespace Cert.Dealing

open Cert.KernelIdeal Cert.KernelIdeal.Gen Cert.Steps Cert.Offsets Cert.Contents Cert.Schedule Cert.Loops Cert.Transfers Cert.Weights Cert.Dots Cert.Groups Cert.Body Cert.Buffers
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x128 .f32) (ws : Dev nD → Vec F S4096x8192 .f32)

/-! ## The semaphores, numbered -/

/-- A run of indices, counted from its first. -/
theorem seg_shift {N k n : ℕ} (h : k + n ≤ N) (Φ : Fin N → sProp 𝕄) :
    bigSep (seg N k n) Φ = bigSep Finset.univ fun i : Fin n => Φ ⟨k + i.val, by omega⟩ := by
  have he : seg N k n = Finset.univ.map ⟨fun i : Fin n => (⟨k + i.val, by omega⟩ : Fin N), fun i j e => Fin.ext (by
      have := congrArg Fin.val e; simp only at this; omega)⟩ := by
    ext v
    simp only [mem_seg, Finset.mem_map, Finset.mem_univ, true_and, Function.Embedding.coeFn_mk, Fin.ext_iff]
    exact ⟨fun h => ⟨⟨v.val - k, by omega⟩, by show k + (v.val - k) = v.val; omega⟩, fun ⟨i, hi⟩ => by
      have hi : k + i.val = v.val := hi
      omega⟩
  rw [he, bigSep_map]; rfl

/-- A family over the semaphores in use, kind by kind. -/
theorem by_kind (Φ : SemLoc sig → sProp 𝕄) :
    bigSep Finset.univ (fun k : Fin 67 => Φ (csem k)) = iprop(Φ (.reg barS) ∗ bigSep Finset.univ (fun o => Φ (.dma (sendS o)))
      ∗ bigSep Finset.univ (fun o => Φ (.dma (recvS o))) ∗ Φ (.dma (wS 0)) ∗ Φ (.dma (wS 1))) := by
  have hs : bigSep (seg 67 1 32) (fun k => Φ (csem k)) = bigSep Finset.univ (fun o => Φ (.dma (sendS o))) :=
    (seg_shift (by omega) _).trans (bigSep_congr fun o _ => congrArg Φ (csem_send o))
  have hr : bigSep (seg 67 (1 + 32) 32) (fun k => Φ (csem k)) = bigSep Finset.univ (fun o => Φ (.dma (recvS o))) :=
    (seg_shift (by omega) _).trans (bigSep_congr fun o _ => congrArg Φ (csem_recv o))
  have hw : bigSep (seg 67 (1 + 32 + 32) 2) (fun k => Φ (csem k)) = iprop(Φ (.dma (wS 0)) ∗ Φ (.dma (wS 1))) :=
    (seg_shift (by omega) _).trans ((bigSep_W0 _).trans (congrArg₂ (fun a b => iprop(a ∗ b)) (congrArg Φ (csem_w 0)) (congrArg Φ (csem_w 1))))
  rw [bigSep_univ_head, bigSep_seg_append 1 32 34, bigSep_seg_append (1 + 32) 32 2, hs, hr, hw, csem_bar]

theorem csem_injective : Function.Injective csem := fun k k' h => by
  unfold csem at h
  split_ifs at h with h₁ h₂
  · exact Fin.ext (h₁.trans h₂.symm)
  · exact Fin.ext (by have := congrArg Fin.val (SemLoc.dma.inj h); simp only at this; omega)

/-- The cell of a device's semaphore. -/
abbrev cellAt (ck : Dev nD × Fin 67) : GSem nD τ sig := ((ck.1 : Thread nD τ), csem ck.2)
theorem cellAt_injective : Function.Injective cellAt := fun a b h =>
  Prod.ext (congrArg (fun g : GSem nD τ sig => g.1.1) h) (csem_injective (congrArg Prod.snd h))
/-- Every cell in use. -/
def cellsUsed : Finset (GSem nD τ sig) := Finset.univ.map ⟨cellAt, cellAt_injective⟩

/-! ## The tokens, numbered -/

/-- A device's own tokens: of its barrier's signals, its sends, its receptions, its weight copies. -/
abbrev TokIx : Type := Fin 32 ⊕ Fin 32 ⊕ Fin 32 ⊕ (Fin 8 × Fin 4)
/-- The cell, round and duty of each. -/
def tokAt (c : Dev nD) : TokIx → GSem nD τ sig × ℕ × Fin 32
  | .inl o => (barCell c, 0, o)
  | .inr (.inl o) => (sendCell c o, 0, 0)
  | .inr (.inr (.inl o)) => (recvCell c o, 0, 0)
  | .inr (.inr (.inr gi)) => (wCell c gi.1, gi.1.val / 2, dutyOf gi.2)
/-- Which token that is, read back off the cell's role. -/
def tokBack (x : GSem nD τ sig × ℕ × Fin 32) : Role → TokIx
  | .bar => .inl x.2.2
  | .send o => .inr (.inl o)
  | .recv o => .inr (.inr (.inl o))
  | .wgt s => .inr (.inr (.inr (grp x.2.1 s, blockOf x.2.2)))
  | .other => .inl 0
theorem tokBack_tokAt (c : Dev nD) (j : TokIx) : tokBack (tokAt c j) (role (tokAt c j).1.2) = j := by
  rcases j with o | o | o | ⟨g, i⟩
  · rfl
  · show tokBack _ (role (.dma (sendS o))) = _
    rw [role_send]; rfl
  · show tokBack _ (role (.dma (recvS o))) = _
    rw [role_recv]; rfl
  · show tokBack _ (role (.dma (wS g))) = _
    rw [role_w]
    show (Sum.inr (Sum.inr (Sum.inr (grp (g.val / 2) (par g), blockOf (dutyOf i)))) : TokIx) = _
    rw [grp_par, blockOf_dutyOf]
theorem tokAt_injective : Function.Injective fun cj : Dev nD × TokIx => tokAt cj.1 cj.2 := fun a b h => by
  have hd (cj : Dev nD × TokIx) : (tokAt cj.1 cj.2).1.1.1 = cj.1 := by rcases cj with ⟨c, o | o | o | gi⟩ <;> rfl
  refine Prod.ext ?_ ?_
  · rw [← hd a, ← hd b]; exact congrArg (fun x : GSem nD τ sig × ℕ × Fin 32 => x.1.1.1) h
  · rw [← tokBack_tokAt a.1 a.2, ← tokBack_tokAt b.1 b.2]
    exact congrArg (fun x : GSem nD τ sig × ℕ × Fin 32 => tokBack x (role x.1.2)) h
/-- Every token. -/
def toksUsed : Finset (GSem nD τ sig × ℕ × Fin 32) := Finset.univ.map ⟨_, tokAt_injective⟩

/-- The tokens of a device's own cells. -/
def ownToks (c : Dev nD) : sProp 𝕄 :=
  iprop(bigSep Finset.univ (fun o : Fin 32 => dutyTok (ER (F := F)) (barCell c) 0 o)
    ∗ bigSep Finset.univ (fun o : Fin 32 => dutyTok (ER (F := F)) (sendCell c o) 0 0)
    ∗ bigSep Finset.univ (fun o : Fin 32 => dutyTok (ER (F := F)) (recvCell c o) 0 0)
    ∗ bigSep Finset.univ (wToks (F := F) c))

theorem toksUsed_eq : bigSep toksUsed (fun x => (dutyTok (ER (F := F)) x.1 x.2.1 x.2.2 : sProp 𝕄)) = bigSep Finset.univ (ownToks (F := F)) := by
  unfold toksUsed
  rw [bigSep_map, bigSep_univ_prod]
  refine bigSep_congr fun c _ => ?_
  rw [bigSep_univ_sum, bigSep_univ_sum, bigSep_univ_sum, bigSep_univ_prod]; rfl

/-! ## Passing the tokens on -/

/-- A family over devices and offsets, every device taking the one of the device that far on. -/
theorem passed (Φ : Dev nD → Fin 32 → sProp 𝕄) :
    bigSep Finset.univ (fun c => bigSep Finset.univ (Φ c)) = bigSep Finset.univ fun c => bigSep Finset.univ fun o => Φ (fwd c o) o := by
  rw [bigSep_univ_comm, bigSep_univ_comm (fun (c : Dev nD) (o : Fin 32) => Φ (fwd c o) o)]
  exact bigSep_congr fun o _ => bigSep_univ_equiv (fwdEquiv o) fun c => Φ c o

theorem pass_on : bigSep Finset.univ (ownToks (F := F)) ⊢ bigSep Finset.univ (tokens (F := F)) := by
  have hb : bigSep Finset.univ (fun c : Dev nD => bigSep Finset.univ fun o : Fin 32 => (dutyTok (ER (F := F)) (barCell c) 0 o : sProp 𝕄))
      = bigSep Finset.univ fun c => bigSep Finset.univ (sigTok (F := F) c) := by
    rw [show (fun c : Dev nD => bigSep Finset.univ fun o : Fin 32 => (dutyTok (ER (F := F)) (barCell c) 0 o : sProp 𝕄))
      = fun c => bigSep Finset.univ fun o : Fin 32 => dutyTok (ER (F := F)) (barCell c) 0 (neg o) from
        funext fun c => bigSep_univ_equiv negEquiv fun o => dutyTok (ER (F := F)) (barCell c) 0 o]
    exact passed fun c o => dutyTok (ER (F := F)) (barCell c) 0 (neg o)
  have hr := passed fun c o => (dutyTok (ER (F := F)) (recvCell c o) 0 0 : sProp 𝕄)
  have hs : bigSep Finset.univ (fun c => bigSep Finset.univ (sendTok (F := F) c))
      = iprop(bigSep Finset.univ (fun c : Dev nD => bigSep Finset.univ fun o : Fin 32 => (dutyTok (ER (F := F)) (sendCell c o) 0 0 : sProp 𝕄))
        ∗ bigSep Finset.univ (fun c : Dev nD => bigSep Finset.univ fun o : Fin 32 => (dutyTok (ER (F := F)) (recvCell (fwd c o) o) 0 0 : sProp 𝕄))) :=
    (bigSep_congr fun c _ => bigSep_pair _ _ _).trans (bigSep_pair _ _ _)
  unfold ownToks tokens
  rw [bigSep_pair, bigSep_pair, bigSep_pair, bigSep_pair, bigSep_pair, hb, hr, hs]
  iintro ⟨H1, H2, H3, H4⟩
  isplitl [H1]; · iexact H1
  isplitl [H2 H3]
  · isplitl [H2] <;> iassumption
  iexact H4

/-! ## The launch -/

/-- What the ghost state made at the launch deals device `c`: its cells' states, its places and that they are at the
    first round, its own tokens. -/
def dealt (c : Dev nD) : sProp 𝕄 :=
  iprop((bigSep Finset.univ fun k : Fin 67 => roundState (ER (F := F)) (sched xs ws) (cellAt (c, k)) 0)
    ∗ (bigSep Finset.univ fun k : Fin 67 => iprop(atPos (ER (F := F)) (cellAt (c, k)) 0 ∅ 0 ∗ reached (ER (F := F)) (cellAt (c, k)) 0))
    ∗ ownToks (F := F) c)

theorem deal : BI.own ((ER (F := F)) (initOf cellsUsed toksUsed)) ⊢ (|==> bigSep Finset.univ (dealt xs ws) : sProp 𝕄) := by
  have hX (Φ : GSem nD τ sig → sProp 𝕄) : bigSep cellsUsed Φ = bigSep Finset.univ fun c : Dev nD => bigSep Finset.univ fun k : Fin 67 => Φ (cellAt (c, k)) := by
    unfold cellsUsed; rw [bigSep_map, bigSep_univ_prod]; rfl
  iintro HX
  imod (Rounds.fund (ER (F := F)) (sched xs ws) cellsUsed toksUsed) $$ HX with ⟨Hst, Hr, Hat, Htok⟩
  imodintro
  ihave Hst := (Entails.of_eq (hX fun g => roundState (ER (F := F)) (sched xs ws) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq toksUsed_eq) $$ Htok
  unfold dealt; simp only [bigSep_sep']
  isplitl [Hst]; · iexact Hst
  isplitl [Hat Hr]
  · isplitl [Hat] <;> iassumption
  iexact Htok

/-- The kernel's own semaphores, numbered. -/
def osem (k : Fin 66) : SemLoc sig := csem k.succ

theorem zeros_all (c : Dev nD) : zeros (F := F) c = bigSep Finset.univ fun k : Fin 67 => (semVal (cellAt (c, k)) 0 : sProp 𝕄) :=
  (by_kind fun sm => (semVal ((c : Thread nD τ), sm) 0 : sProp 𝕄)).symm

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores at zero are the barrier's and the kernel's own. -/
theorem zeros_eq (c : Dev nD) : zeros (F := F) c = iprop(unscopedSems0 c ∗ Pipeline.ownSems0 (Ix := Unit) (Name := ℕ) (U := UU) (Lvl := ℕ) (Val := Elt F) (τ := τ) osem c) := by
  rw [zeros_all, unscopedSems0_eq]
  exact Idealize.ShloMosaic.bigSep_univ_succ fun k : Fin 67 => (semVal (cellAt (c, k)) 0 : sProp 𝕄)

/-- A device's cells, opened at their first round. -/
theorem open_cells (c : Dev nD) :
    iprop(Pipeline.ownSems0 (Ix := Unit) (Name := ℕ) (U := UU) (Lvl := ℕ) (Val := Elt F) (τ := τ) osem c ∗ unscopedSems0 c ∗ dealt xs ws c)
      ⊢ |={Set.univ}=> iprop((bigSep Finset.univ fun k : Fin 67 => record xs ws (cellAt (c, k)))
          ∗ (bigSep Finset.univ fun k : Fin 67 => atPos (ER (F := F)) (cellAt (c, k)) 0 ∅ 0) ∗ ownToks (F := F) c) := by
  have hopen : iprop(zeros (F := F) c ∗ bigSep Finset.univ fun k : Fin 67 => roundState (ER (F := F)) (sched xs ws) (cellAt (c, k)) 0)
      ⊢ (|={Set.univ}=> bigSep Finset.univ fun k : Fin 67 => iprop(∃ κ : ℕ, cellInv (ER (F := F)) (sched xs ws) κ (cellAt (c, k))) : sProp 𝕄) := by
    rw [zeros_all, ← bigSep_pair]
    exact (bigSep_mono fun k _ => (Rounds.body_intro (ER (F := F)) (sched xs ws) (cellAt (c, k))).trans inv_alloc).trans (bigSep_fupd _ _)
  unfold dealt record
  rw [bigSep_pair, bigSep_pair]
  iintro ⟨Hos, Hus, Hst, ⟨Hat, Hre⟩, Htok⟩
  imod hopen $$ [Hos Hus Hst] with Hinv
  · isplitl [Hos Hus]
    · rw [zeros_eq]; isplitl [Hus] <;> iassumption
    iexact Hst
  imodintro
  isplitl [Hinv Hre]
  · isplitl [Hinv] <;> iassumption
  isplitl [Hat] <;> iassumption

/-- What a device then keeps: every record, its places, its tokens. -/
def kept (c : Dev nD) : sProp 𝕄 := iprop(records xs ws ∗ places (F := F) c ∗ tokens (F := F) c)

/-- Everyone keeps a persistent fact. -/
theorem keep_all {I : Type} [DecidableEq I] (s : Finset I) {R : sProp 𝕄} [BI.Persistent R] {Φ : I → sProp 𝕄} :
    iprop(R ∗ bigSep s Φ) ⊢ bigSep s fun i => iprop(R ∗ Φ i) := by
  rw [bigSep_pair]; exact sep_mono_left (BI.bigSep_of_persistent s R)

theorem share_out :
    (bigSep Finset.univ fun c : Dev nD => iprop((bigSep Finset.univ fun k : Fin 67 => record xs ws (cellAt (c, k)))
          ∗ (bigSep Finset.univ fun k : Fin 67 => atPos (ER (F := F)) (cellAt (c, k)) 0 ∅ 0) ∗ ownToks (F := F) c) : sProp 𝕄)
      ⊢ bigSep Finset.univ (kept xs ws) := by
  rw [bigSep_pair, bigSep_pair, ← bigSep_univ_prod (fun ck : Dev nD × Fin 67 => record xs ws (cellAt ck)),
    bigSep_congr (s := Finset.univ) (fun (c : Dev nD) _ => show (bigSep Finset.univ fun k : Fin 67 => (atPos (ER (F := F)) (cellAt (c, k)) 0 ∅ 0 : sProp 𝕄))
      = places (F := F) c from by_kind fun sm => (atPos (ER (F := F)) ((c : Thread nD τ), sm) 0 ∅ 0 : sProp 𝕄))]
  iintro ⟨#HR, Hat, Htok⟩
  ihave Htok := (pass_on (F := F)) $$ Htok
  unfold kept
  iapply (keep_all Finset.univ (R := records xs ws) (Φ := fun c => iprop(places (F := F) c ∗ tokens (F := F) c)))
  isplitr; · unfold records; iexact HR
  rw [bigSep_pair]
  isplitl [Hat] <;> iassumption

/-- The step taken for all devices at once. -/
theorem share : (bigSep Finset.univ fun c => iprop(Pipeline.ownSems0 (Ix := Unit) (Name := ℕ) (U := UU) (Lvl := ℕ) (Val := Elt F) (τ := τ) osem c ∗ unscopedSems0 c ∗ dealt xs ws c) : sProp 𝕄)
    ⊢ |={Set.univ}=> bigSep Finset.univ (kept xs ws) :=
  ((bigSep_mono fun c _ => open_cells xs ws c).trans (bigSep_fupd _ _)).trans (BI.fupd_mono (share_out xs ws))

end Cert.Dealing

end
-- ==== Proof.Launch.lean ====
/-
# The run

The program's run on the 32 devices, for any float values: it ends, the result array of each device holds what the body
computes from every device's columns of `x` and its own weights, the arguments are unchanged and every semaphore is at
zero.
-/
module

public import proofs.«01_k».proof.Proof.Dealing
public import proofs.«01_k».proof.Proof.Gen.KernelIdeal.Points
public import Idealize.ShloMosaic.Lib.Pipeline.CollectiveSegs

@[expose] public section

set_option backward.proofsInPublic true

noncomputable section

namespace Cert.Launch

open Cert.KernelIdeal Cert.KernelIdeal.Gen Cert.Steps Cert.Offsets Cert.Contents Cert.Schedule Cert.Loops Cert.Transfers Cert.Weights Cert.Dots Cert.Groups Cert.Body Cert.Buffers Cert.Dealing
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credit at the launch -/

/-- Over all devices, what is owed to the same semaphore of the device `o` further on comes to one share for each device. -/
theorem tally_once {cell : Dev nD → GSem nD τ sig} (hc : Function.Injective cell) (c : Dev nD) (o : Fin 32) (n : ℕ) :
    ∑ d : Dev nD, (tallyAt (cell (fwd d o)) () n : CellTallies nD τ sig Unit) (cell c) () = n := by
  have h (d : Dev nD) : (tallyAt (cell (fwd d o)) () n : CellTallies nD τ sig Unit) (cell c) () = if d = bwd c o then n else 0 := by
    rw [tallyAt_apply]
    refine if_congr ⟨fun h => ?_, fun h => ⟨?_, rfl⟩⟩ rfl rfl
    · rw [hc h.1, bwd_fwd]
    · rw [h, fwd_bwd]
  rw [Finset.sum_congr rfl fun d _ => h d, Finset.sum_ite_eq' Finset.univ (bwd c o) fun _ => n, if_pos (Finset.mem_univ _)]

theorem barCell_injective : Function.Injective barCell := fun _ _ h => congrArg (fun g : GSem nD τ sig => g.1.1) h
theorem recvCell_injective (o : Fin 32) : Function.Injective fun c => recvCell c o := fun _ _ h => congrArg (fun g : GSem nD τ sig => g.1.1) h
theorem offset_of_recv {c d : Dev nD} {o o' : Fin 32} (h : recvCell c o = recvCell d o') : o = o' := by
  have h' := congrArg (fun g : GSem nD τ sig => role g.2) h
  simp only [role_recv] at h'
  exact Role.recv.inj h'
theorem recv_ne_bar {c d : Dev nD} {o : Fin 32} (h : recvCell c o = barCell d) : False := by
  have h' := congrArg (fun g : GSem nD τ sig => role g.2) h
  simp only [role_recv, role_bar] at h'
  exact Role.noConfusion h'

/-- A device's barrier is owed one signal from each of the others; -/
theorem owed_bar (c : Dev nD) : ∑ d : Dev nD, O₀ d (barCell c) () = 31 := by
  have h (d : Dev nD) : O₀ d (barCell c) () = ∑ o ∈ (Finset.univ : Finset (Fin 32)).filter (1 ≤ ·.val), (tallyAt (barCell (fwd d o)) () 1 : CellTallies nD τ sig Unit) (barCell c) () := by
    unfold O₀ owedBar owedRecv
    rw [Pi.add_apply, Finsupp.add_apply, Finset.sum_apply, Finset.sum_apply, Finsupp.finset_sum_apply, Finsupp.finset_sum_apply,
      Finset.sum_eq_zero (s := _) (f := fun o => (tallyAt (recvCell (fwd d o) o) () NX : CellTallies nD τ sig Unit) (barCell c) ()) (fun o _ => by
        rw [tallyAt_ne_cell (fun h => recv_ne_bar h.symm)]; rfl), add_zero]
  rw [Finset.sum_congr rfl fun d _ => h d, Finset.sum_comm, Finset.sum_congr rfl fun o _ => tally_once barCell_injective c o 1]
  decide
/-- each of its receive semaphores is owed one block. -/
theorem owed_recv (c : Dev nD) {o : Fin 32} (ho : 1 ≤ o.val) : ∑ d : Dev nD, O₀ d (recvCell c o) () = NX := by
  have h (d : Dev nD) : O₀ d (recvCell c o) () = ∑ o' ∈ (Finset.univ : Finset (Fin 32)).filter (1 ≤ ·.val), (tallyAt (recvCell (fwd d o') o') () NX : CellTallies nD τ sig Unit) (recvCell c o) () := by
    unfold O₀ owedBar owedRecv
    rw [Pi.add_apply, Finsupp.add_apply, Finset.sum_apply, Finset.sum_apply, Finsupp.finset_sum_apply, Finsupp.finset_sum_apply,
      Finset.sum_eq_zero (s := _) (f := fun o' => (tallyAt (barCell (fwd d o')) () 1 : CellTallies nD τ sig Unit) (recvCell c o) ()) (fun o' _ => by
        rw [tallyAt_ne_cell (fun h => recv_ne_bar h)]; rfl), zero_add]
  rw [Finset.sum_congr rfl fun d _ => h d, Finset.sum_comm,
    Finset.sum_eq_single o (fun o' _ hne => Finset.sum_eq_zero fun d _ => by
      rw [tallyAt_ne_cell (fun h => hne (offset_of_recv h).symm)]; rfl)
      (fun hn => (hn (Finset.mem_filter.mpr ⟨Finset.mem_univ _, ho⟩)).elim)]
  exact tally_once (recvCell_injective o) c o NX

theorem credit_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, owed_bar]
theorem credit_recv (c : Dev nD) {o : Fin 32} (ho : 1 ≤ o.val) :
    tallyOn (recvCell c o) (launchCredit (Pipeline.owing O₀) 0 (recvCell c o)) = (tallyAt (recvCell c o) () NX : CellTallies nD τ sig Unit) := by
  unfold tallyAt; refine congrArg _ (Finsupp.ext fun u => ?_); cases u
  rw [Pipeline.launchCredit_owing, Finsupp.single_eq_same, owed_recv c ho]

theorem recvLoc_injective : Function.Injective fun o : Fin 32 => (SemLoc.dma (recvS o) : SemLoc sig) := fun o o' h =>
  offset_of_recv (c := 0) (d := 0) (congrArg (fun s => ((((0 : Dev nD) : Thread nD τ), s) : GSem nD τ sig)) h)

theorem credits_intro (c : Dev nD) : (Pipeline.launchCred O₀ c : sProp 𝕄) ⊢ credits (F := F) c := by
  unfold Pipeline.launchCred credits
  rw [bigSep_univ_at _ (SemLoc.reg barS), credit_bar]
  refine sep_mono_right ?_
  refine (bigSep_subset (t := (seg 32 1 31).map ⟨_, recvLoc_injective⟩) fun sm h => ?_).trans ?_
  · obtain ⟨o, -, rfl⟩ := Finset.mem_map.mp h
    exact Finset.mem_erase.mpr ⟨fun h => (by cases h), Finset.mem_univ _⟩
  rw [bigSep_map]
  exact Entails.of_eq (bigSep_congr fun o ho => congrArg cred (credit_recv c (mem_seg.mp ho).1))

/-! ## The pipeline's data -/

variable (m : (ℓ : Loc nD τ sig) → Buf (Elt F) ℓ) (ρ : Dev nD → PrngReg)

/-- What the program starts from. -/
def s₀ : MemSt nD τ sig (Elt F) := ⟨m, fun _ => 0, ρ⟩

/-- Each device's columns of `x`, as staged; -/
def xIn (c : Dev nD) : Vec F S4096x128 .f32 := (win0_0.blk (0 : Fin 1)).view.read (Elt F) (m ((c : Thread nD τ).loc main_arg0))
/-- its weights; -/
def wIn (c : Dev nD) : Vec F S4096x8192 .f32 := m ((c : Thread nD τ).loc main_arg1)
/-- its rows of the result. -/
def result (c : Dev nD) : Vec F S128x8192 .f32 := outVal (xIn m) (wIn m c) c

/-- What a device has before its body, beside its scratch buffers; -/
def start (c : Dev nD) : sProp 𝕄 :=
  iprop(kept (xIn m) (wIn m) c ∗ credits (F := F) c ∗ levAts L lv ∗ wPt (wIn m) c)
/-- with them; -/
def before (c : Dev nD) : sProp 𝕄 := iprop(start m c ∗ rPt (F := F) c ∗ bPt (F := F) c)
/-- and after it. -/
def after (c : Dev nD) : sProp 𝕄 := iprop(zeros (F := F) c ∗ wPt (wIn m) c ∗ rPt (F := F) c ∗ bPt (F := F) c)

def dats (_ : Fin 1) (c : Dev nD) : Pipeline.Dat τ (Elt F) Unit ℕ UU ℕ cfg0 c where
  A w := m ((cfg0.win w).arr.view.loc (c : Thread nD τ))
  after w _ := match w with
    | ⟨0, _⟩ => xIn m c
    | ⟨1, _⟩ => result m c
  Φ t := match t with
    | ⟨0, _⟩ => before m c
    | ⟨_ + 1, _⟩ => after m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def handed (c : Dev nD) : sProp 𝕄 :=
  iprop(before m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
set_option maxRecDepth 4000 in
def handedBack (c : Dev nD) : sProp 𝕄 :=
  iprop(after m c ∗ (dats m 0 c).owesAt () t0_0.succ ∗ staged c cc0_stg0_0 (xIn m c) ∗ staged c cc0_stg1_0 (result m c))

theorem runs_deviceId {c : Dev nD} {Q : PUnit → sProp 𝕄} :
    runs c (Prog.lift .deviceId >>= fun d => Steps.body (F := F) d) Q = runs c (Steps.body c) Q := by
  unfold runs
  simp only [Prog.lift, Prog.bind_op, Prog.bind_ret, wp_deviceId]

/-- The body, from what the pipeline hands it to what it takes back. -/
theorem body_runs (c : Dev nD) : handed m c ⊢ runs c (Prog.lift .deviceId >>= fun d => Steps.body (F := F) d) fun _ => handedBack m c := by
  rw [runs_deviceId]
  unfold handed handedBack before after start kept
  iintro ⟨⟨⟨⟨#HR, Hp, Ht⟩, Hc, #Hlev, Hw⟩, Hr, Hb⟩, Ho, ⟨%d0, %g0, %hg0, Hx⟩, ⟨%d1, %g1, %hg1, Hout⟩⟩
  have hx : g0 = xIn m c := by rw [hg0]; unfold Pipeline.Dat.before; rw [if_pos (fetch0_0 t0_0)]; rfl
  subst hx
  unfold Pipeline.Dat.owesAt Pipeline.owesWithin
  icases Ho with ⟨%W, %hW, HO⟩
  rw [show (dats m 0 c).owed t0_0.castSucc = O₀ c from rfl, show (dats m 0 c).owed t0_0.succ = 0 from rfl]
  iapply (wp_wand _ _ _) $$ [Hp Ht Hc Hw Hr Hb Hx Hout HO]
  · iapply (wp_whole (xIn m) (wIn m) c)
    isplitr; · iexact HR
    isplitr; · iexact Hlev
    isplitl [Hp Ht Hc]
    · isplitl [Hp]; · iexact Hp
      isplitl [Ht] <;> iassumption
    isplitl [Hw]; · iexact Hw
    isplitl [Hr]; · iexact Hr
    isplitl [Hb]; · iexact Hb
    isplitl [Hx]; · unfold xPt; iexact Hx
    isplitl [Hout]; · iexists g1; unfold oPts; iexact Hout
    unfold owing; iexists W; iexact HO
  iintro %_
  unfold owing
  iintro ⟨Hz, Hw, Hr, Hb, Hx, Hout, ⟨%W', HO⟩⟩
  isplitl [Hz Hw Hr Hb]
  · isplitl [Hz]; · iexact Hz
    isplitl [Hw]; · iexact Hw
    isplitl [Hr] <;> iassumption
  isplitl [HO]
  · iexists W'
    isplitr; · ipureintro; exact fun _ _ => Or.inl trivial
    iexact HO
  isplitl [Hx]
  · iexists _; isplitr; · (ipureintro; rfl)
    unfold xPt; iexact Hx
  iexists _; isplitr; · (ipureintro; rfl)
  unfold oPts result; iexact Hout

set_option maxRecDepth 65536 in
/-- What the pipeline calls is the body. -/
theorem body_called : defs₀ (F := F) Proc.tc 0 (t0_0, cfg0.slots t0_0) = (Prog.lift .deviceId >>= fun d => Steps.body d) := body_eq

set_option maxRecDepth 65536 in
theorem body_obligation (c : Dev nD) : Pipeline.BodyObligation (dats (F := F) m 0 c) (defs₀ (F := F)) 𝒱₀ () Set.univ := fun t => by
  rw [fin_N0 t]
  rw [bigSep_W0, bigSep_W0]
  simp only [owns_whole]
  exact (body_runs m c).trans (Entails.of_eq (congrArg (fun p => runs c p fun _ => handedBack m c) body_called.symm))

/-! ## The side conditions -/

theorem osem_facts : Pipeline.OwnSemFacts cfg0.spec osem := by decide +kernel

theorem share_full (c : Dev nD) (w : Fin cfg0.W) : (dats m 0 c).share w = fullShare := (dats m 0 c).share_full (fun _ => rfl) w

theorem at_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ kept (xIn m) (wIn m) c)
      ⊢ |={Set.univ}=> iprop(start m c ∗ emp) := by
  have hw : (Pipeline.unscopedRestP Pipeline.Prefetch.none cfg0.spec c (fun b => m ((c : Thread nD τ).loc b)) : sProp 𝕄) = wPt (wIn m) c := by
    rw [Pipeline.unscopedRestP_none]; exact unscopedRest0_eq c _
  rw [hw]
  unfold start
  iintro ⟨Hw, Hlev, Hcr, -, HK⟩
  ihave Hc := (credits_intro (F := F) c) $$ Hcr
  imodintro
  isplitl
  · isplitl [HK]; · iexact HK
    isplitl [Hc]; · iexact Hc
    isplitl [Hlev] <;> iassumption
  · iempintro

theorem at_entry (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr, Hb⟩
  isplitl [Hs]; · iexact Hs
  unfold rPt bPt
  isplitl [Hr] <;> iassumption

theorem at_exit (c : Dev nD) :
    (dats m 0 c).Φ (Fin.last cfg0.N) ⊢ iprop((unscopedSems0 c ∗ wPt (wIn m) c) ∗ Pipeline.ownSems0 osem c ∗ Pipeline.scopedRest cfg0.spec c) := by
  rw [show (dats m 0 c).Φ (Fin.last cfg0.N) = after m c from rfl, scopedRest0_eq]
  unfold after
  rw [zeros_eq]
  iintro ⟨⟨Hu, Ho⟩, Hw, Hr, Hb⟩
  isplitl [Hu Hw]
  · isplitl [Hu] <;> iassumption
  isplitl [Ho]; · iexact Ho
  unfold rPt bPt
  isplitl [Hr] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

/-- What a device's array ends up holding. -/
def finalA (c : Dev nD) (w : Fin cfg0.W) : Buf (Elt F) ((cfg0.win w).arr.view.loc (c : Thread nD τ)) := (dats m 0 c).arrAt w cfg0.N

/-- What is read of a device's other resources at the end. -/
def QY (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

/-- The end: the arrays at what the pipeline leaves in them, the weights unchanged. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

theorem read_end (c : Dev nD) (s' : Phys nD τ sig (Elt F)) :
    iprop((unscopedSems0 c ∗ wPt (wIn m) c) ∗ emp ∗ SI s') ⊢ (|={Set.univ}=> iprop(⌜QY m c s'.mem⌝ ∗ SI s') : sProp 𝕄) := by
  unfold wPt
  iintro ⟨⟨Hu, Hw⟩, -, HSI⟩
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ hw, hs⟩
  iexact HSI

/-- The ghost state the launch makes: the pipeline's and the protocol's. -/
def u₀ : UU :=
  (initOf (Pipeline.cells cfgs cellOf_inj) (Pipeline.launchToks cfgs cellOf_inj), initOf cellsUsed toksUsed)

set_option maxRecDepth 8000 in
/-- On the 32 devices, for any float values, from any memory with zero counters: every weakly fair execution of @main
    terminates, and every final state has each device's result array at the computed contents, the arguments unchanged
    and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt (xIn m) (wIn m)) (G' := kept (xIn m) (wIn m)) (u₀ := u₀)
    (hu₀ := by
      unfold u₀
      iintro Hu
      ihave H := (ownU_pair _ _) $$ Hu
      icases H with ⟨HP, HX⟩
      imod (deal (xIn m) (wIn m)) $$ HX with HG
      imodintro
      isplitl [HP] <;> iassumption)
    (hglob := share (xIn m) (wIn m))
    (hA := fun _ _ => rfl) (hpf := fun _ k => k.elim0)
    (X := start m) (Y := fun c => iprop(unscopedSems0 c ∗ wPt (wIn m) c)) (Z := fun _ => iprop(emp))
    (hX := at_start m ρ) (hin := at_entry m) (hout := at_exit m)
    (QY := QY m) (hY := read_end m)
    (hQ := fun _ h hs => ⟨fun c => ⟨(h c).1, (h c).2.2.1⟩, sem_eq_zero hs fun c => (h c).2.2.2⟩)

/-! ## The arrays at the end -/

/-- A device's columns of `x` are unchanged. -/
theorem finalA_x (c : Dev nD) : finalA m c (0 : Fin 2) = m ((c : Thread nD τ).loc main_arg0) :=
  (dats (F := F) m 0 c).arrAt_in (0 : Fin 2) rfl _

end Cert.Launch

end
-- ==== Proof.Final.lean ====
/-
# The arrays at the end

The grid has one point, and a device's blocks of the columns of `x` and of the result are the whole arrays. So the
body's columns are the argument itself, and the result array ends holding what the body leaves.
-/
module

public import proofs.«01_k».proof.Proof.Launch
public import Idealize.ShloMosaic.Lib.Pipeline.Value

@[expose] public section

set_option backward.proofsInPublic true

noncomputable section

namespace Cert.Final

open Cert.KernelIdeal Cert.KernelIdeal.Gen Cert.Contents Cert.Launch
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The columns of `x` the body reads are the argument. -/
theorem xIn_eq (c : Dev nD) : xIn m c = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) (m ((c : Thread nD τ).loc main_arg0))

/-- What the one point writes back is the result, read through its block; -/
theorem flushed_eq (c : Dev nD) (t : Fin cfg0.N) :
    (dats (F := F) m 0 c).flushed 1 t = ((cfg0.win 1).blk t).view.read (Elt F) (result m c) := by
  obtain rfl : t = t0_0 := Fin.ext (by have := t.isLt; have : cfg0.N = 1 := N_0; show t.val = 0; omega)
  show (cfg0.win 1).cut (grid0.coords t0_0) ((dats (F := F) m 0 c).after 1 t0_0) = _
  have hz : (fun a => win0_1.index t0_0 a * main_v1.ty.shape.size a) = fun _ => 0 := funext fun a => by fin_cases a <;> decide
  exact (Memref.read_access_unit_zero (Elt F) main_v1 hz (fun a => by rw [congrFun hz a]; simp) (result m c)).symm

/-- and the block is the whole array. -/
theorem final_out (c : Dev nD) : finalA m c (1 : Fin 2) = result m c :=
  (dats (F := F) m 0 c).arrAt_eq_of_cover 1 (result m c) (fun t _ => flushed_eq m c t) fun i =>
    ⟨t0_0, flush0_1 t0_0, by
      show i ∈ ((View.whole main_v1).slice (win0_1.rect t0_0)).set
      rw [View.set_slice_whole, Rect.mem_set_unit]
      intro a
      have h0 : (i 0 : Nat) < 128 := (i 0).isLt
      have h1 : (i 1 : Nat) < 8192 := (i 1).isLt
      match a with
      | ⟨0, _⟩ =>
        show win0_1.index t0_0 0 * win0_1.size 0 ≤ (i 0 : Nat) ∧ (i 0 : Nat) < win0_1.index t0_0 0 * win0_1.size 0 + win0_1.xsize (grid0.coords t0_0) 0
        rw [show win0_1.index t0_0 0 * win0_1.size 0 = 0 by decide +kernel, show win0_1.xsize (grid0.coords t0_0) 0 = 128 by decide +kernel]; omega
      | ⟨1, _⟩ =>
        show win0_1.index t0_0 1 * win0_1.size 1 ≤ (i 1 : Nat) ∧ (i 1 : Nat) < win0_1.index t0_0 1 * win0_1.size 1 + win0_1.xsize (grid0.coords t0_0) 1
        rw [show win0_1.index t0_0 1 * win0_1.size 1 = 0 by decide +kernel, show win0_1.xsize (grid0.coords t0_0) 1 = 8192 by decide +kernel]; omega⟩

/-- THE RUN: every device's result is the body's value of the arguments; the arguments are unchanged and every semaphore
    is at zero. -/
theorem run_result : θ_run defs (onTc (τ := τ) (main (F := F))) ⟨m, fun _ => 0, ρ⟩ fun r =>
    (∀ c : Dev nD,
      r.2.mem ((c : Thread nD τ).loc main_v1)
          = outVal (fun d : Dev nD => m ((d : Thread nD τ).loc main_arg0)) (m ((c : Thread nD τ).loc main_arg1)) c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 := by
  refine (θ_run defs _ _).mono (fun r h => ⟨fun c => ⟨?_, ?_, (h.1 c).2⟩, h.2⟩) (run_main (F := F) m ρ)
  · have e : xIn m = fun d : Dev nD => m ((d : Thread nD τ).loc main_arg0) := funext fun d => xIn_eq m d
    exact ((h.1 c).1 (1 : Fin 2)).trans ((final_out m c).trans (congrArg (fun xs => outVal xs (wIn m c) c) e))
  · exact ((h.1 c).1 (0 : Fin 2)).trans (finalA_x m c)

/-- Of which the frame: the arguments are unchanged and every semaphore is at zero. -/
theorem run_frame : θ_run defs (onTc (τ := τ) (main (F := F))) ⟨m, fun _ => 0, ρ⟩ fun r =>
    (∀ c : Dev nD,
      r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ h => ⟨fun c => (h.1 c).2, h.2⟩) (run_result m ρ)

end Cert.Final

end
-- ==== Proof.Same.lean ====
/-
# One text, two programs

The kernel and its idealization are printed with the same text, so at any float values they have the same body and the
same table of bodies, and a run of the one is a run of the other.
-/
module

public import proofs.«01_k».proof.Proof.Final
public import proofs.«01_k».proof.Proof.Gen.Kernel

@[expose] public section

set_option backward.proofsInPublic true
set_option maxRecDepth 65536

noncomputable section

namespace Cert.Same

open Idealize.ShloMosaic Idealize.ShloMosaic.TcCoe Idealize.SL.Sem
open Cert.Kernel.Gen Cert.KernelIdeal.Gen

variable {F : FTy → Type} [FloatOps F]

/-- The two bodies; -/
theorem body_same : Cert.Kernel.cc0_body (F := F) = Cert.KernelIdeal.cc0_body (F := F) := rfl

/-- the two tables of bodies, whose one label is the body's; -/
theorem kernels_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_body (F := F) _ _ _ _ _ _ _ _ _ _ _ _ _ = _
    rw [body_same]
  | ⟨_ + 1, h⟩, _ => exact absurd h (Nat.not_lt.2 (Nat.le_add_left _ _))

/-- and the two with their pipelines. -/
theorem defs_same : Cert.Kernel.defs (F := F) = Cert.KernelIdeal.defs (F := F) :=
  congrArg (Pipeline.defs (Cert.KernelIdeal.pcfgs (F := F))) kernels_same

/-- The kernel's run: the arguments are unchanged and every semaphore is at zero. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
          ∧ r.2.mem ((c : Thread Cert.Kernel.nD Cert.Kernel.τ).loc Cert.Kernel.main_arg1) = m ((c : Thread Cert.Kernel.nD Cert.Kernel.τ).loc Cert.Kernel.main_arg1))
        ∧ r.2.sem = fun _ => 0 := by
  rw [defs_same]
  exact Cert.Final.run_frame m ρ

end Cert.Same

end
-- ==== Proof.Value.lean ====
/-
# The value

At the ideal values the eight group products on device `c` add up, over the columns in the order in which they came
round the ring, the products of the device's rows of `x` and the weights. The order is a rearrangement of the columns of
`x`, so what is left is the device's block of rows of the whole product, and the maximum with zero is taken entry by
entry on both sides.
-/
module

public import proofs.«01_k».proof.Proof.Contents
public import proofs.«01_k».proof.Proof.Gen.ReferenceIdeal
public import Idealize.ShloMosaic.Lib.Pointwise.Contract
public import Idealize.ShloMosaic.Lib.Layout
public import Idealize.ShloMosaic.PureOps.Ideal.Laws

@[expose] public section

set_option backward.proofsInPublic true

noncomputable section

namespace Cert.Value

open Cert.KernelIdeal Cert.KernelIdeal.Gen Cert.Steps Cert.Offsets Cert.Contents
open Idealize.ShloMosaic hiding ix2 ix3
open Idealize.ShloMosaic.TcCoe
open Idealize.ShloMosaic.ValueIdx

/-! ## The order of the columns -/

/-- The column of `x` that is column `k` of group `g` on device `c`. -/
def col (c : Dev nD) (p : Fin 8 × Fin 512) : Fin 4096 :=
  ⟨128 * (bwd c (off p.1 ⟨p.2.val / 128, by omega⟩)).val + p.2.val % 128, by
    have := val_lt (bwd c (off p.1 ⟨p.2.val / 128, by omega⟩)); omega⟩

theorem col_injective (c : Dev nD) : Function.Injective (col c) := by
  rintro ⟨g, k⟩ ⟨g', k'⟩ h
  have h' : 128 * (bwd c (off g ⟨k.val / 128, by omega⟩)).val + k.val % 128
      = 128 * (bwd c (off g' ⟨k'.val / 128, by omega⟩)).val + k'.val % 128 := congrArg Fin.val h
  have hb := congrArg Fin.val (bwd_inj (c := c) (o := off g ⟨k.val / 128, by omega⟩) (o' := off g' ⟨k'.val / 128, by omega⟩)
    (Fin.ext (by omega)))
  simp only [off] at hb
  have hm : k.val % 128 = k'.val % 128 := by omega
  have hk := k.isLt
  have hk' := k'.isLt
  exact Prod.ext (Fin.ext (by show g.val = g'.val; omega)) (Fin.ext (by show k.val = k'.val; omega))

/-- Every column of `x` comes round once. -/
theorem sum_col {M : Type*} [AddCommMonoid M] (c : Dev nD) (f : Fin 4096 → M) :
    ∑ g : Fin 8, ∑ k : Fin 512, f (col c (g, k)) = ∑ l : Fin 4096, f l := by
  rw [← Fintype.sum_prod_type' (f := fun g k => f (col c (g, k)))]
  exact Fintype.sum_bijective (col c)
    ((Fintype.bijective_iff_injective_and_card (col c)).mpr ⟨col_injective c, by simp⟩) _ _ fun _ => rfl

/-! ## The products at an index -/

/-- A group's product is the sum over its 512 columns; -/
theorem pay2_apply (x : Vec Ideal S128x512 .f32) (w : Vec Ideal S1x512x8192 .f32) (r : Fin 128) (n : Fin 8192) :
    k0_pay2 (F := Ideal) x w (ix2 r n) = ∑ k : Fin 512, x (ix2 r k) * w (ix3 0 k n) := by
  unfold k0_pay2
  refine (Ideal.matmul_constant_zero_apply _ none x _ (ix2 r n)).trans ?_
  refine (DotDims.sum_contr₁ (d := dot_S128x512_S512x8192_S128x8192_1_0_0_1_n_n) (a := 1) rfl (K := 512) rfl _).trans ?_
  refine Finset.sum_congr rfl fun k _ => ?_
  congr 1
  · refine congrArg x (funext fun a => ?_)
    match a with
    | ⟨0, _⟩ => rfl
    | ⟨1, _⟩ => rfl
  · refine Eq.trans (congrArg _ (funext fun a => ?_)) (shapeCast_1ab_ab_apply w shapeCasts_S1x512x8192_S512x8192 k n)
    match a with
    | ⟨0, _⟩ => rfl
    | ⟨1, _⟩ => rfl

/-- and so is what a later group adds. -/
theorem pay3_apply (x : Vec Ideal S128x512 .f32) (w : Vec Ideal S1x512x8192 .f32) (a : Vec Ideal S128x8192 .f32)
    (j : S128x8192.Idx) : k0_pay3 (F := Ideal) x w a j = a j + k0_pay2 (F := Ideal) x w j := by
  unfold k0_pay3 k0_pay2
  refine congrArg₂ (· + ·) ?_ rfl
  rw [shapeCast_self]

/-- The host's product is the sum over all the columns. -/
theorem host_apply (x : Vec Ideal Cert.ReferenceIdeal.S4096x4096 .f32) (w : Vec Ideal S4096x8192 .f32) (r : Fin 4096) (n : Fin 8192) :
    Host.dotGeneral (F := Ideal) (φ₁ := .f32) (φ₂ := .f32) Cert.ReferenceIdeal.dot_S4096x4096_S4096x8192_S4096x8192_1_0_0_1_n_n none x w (ix2 r n)
      = ∑ l : Fin 4096, x (ix2 r l) * w (ix2 l n) := by
  refine (Ideal.dotGeneral_apply _ none _ x w (ix2 r n)).trans ?_
  refine (DotDims.sum_contr₁ (d := Cert.ReferenceIdeal.dot_S4096x4096_S4096x8192_S4096x8192_1_0_0_1_n_n) (a := 1) rfl (K := 4096) rfl _).trans ?_
  refine Finset.sum_congr rfl fun k _ => ?_
  congr 1
  · refine congrArg x (funext fun a => ?_)
    match a with
    | ⟨0, _⟩ => rfl
    | ⟨1, _⟩ => rfl
  · refine congrArg w (funext fun a => ?_)
    match a with
    | ⟨0, _⟩ => rfl
    | ⟨1, _⟩ => rfl

/-! ## The result -/

/-- Group `g`'s product is the whole product's terms at the group's columns. -/
theorem group_apply (X : Vec Ideal Cert.ReferenceIdeal.S4096x4096 .f32) (W : Vec Ideal S4096x8192 .f32) (c : Dev nD)
    (g : Fin 8) (r : Fin 128) (n : Fin 8192) (R : Fin 4096) (hR : R.val = 128 * c.val + r.val) :
    k0_pay2 (F := Ideal) (xGrp (fun d => Layout.block ⟨2, ![4096, 128]⟩ ⟨2, ![4096, 4096]⟩ 1 32 d X) c g) (wGrp W c g) (ix2 r n)
      = ∑ k : Fin 512, X (ix2 R (col c (g, k))) * W (ix2 (col c (g, k)) n) := by
  refine (pay2_apply _ _ r n).trans (Finset.sum_congr rfl fun k _ => congrArg₂ (· * ·) ?_ rfl)
  have hk := k.isLt
  have hd : (⟨(512 * g.val + k.val) / 128, by omega⟩ : Fin 32) = off g ⟨k.val / 128, by omega⟩ :=
    Fin.ext (by simp only [off]; omega)
  refine congrArg X (funext fun a => Fin.ext ?_)
  match a with
  | ⟨0, _⟩ => exact hR.symm
  | ⟨1, _⟩ =>
    show (bwd c ⟨(512 * g.val + k.val) / 128, _⟩).val * 128 + (512 * g.val + k.val) % 128
      = 128 * (bwd c (off g ⟨k.val / 128, _⟩)).val + k.val % 128
    rw [hd]; omega

/-- The sum after `k` more groups. -/
theorem acc_apply (xs : Dev nD → Vec Ideal S4096x128 .f32) (w : Vec Ideal S4096x8192 .f32) (c : Dev nD) (j : S128x8192.Idx) :
    ∀ k : ℕ, acc xs w c k j
      = ∑ i ∈ Finset.range (k + 1), k0_pay2 (F := Ideal) (xGrp xs c (Fin.ofNat 8 i)) (wGrp w c (Fin.ofNat 8 i)) j
  | 0 => (Finset.sum_range_one fun i => k0_pay2 (F := Ideal) (xGrp xs c (Fin.ofNat 8 i)) (wGrp w c (Fin.ofNat 8 i)) j).symm
  | k + 1 => by
    rw [Finset.sum_range_succ, ← acc_apply xs w c j k]
    exact pay3_apply _ _ _ j

/-- Device `c`'s result is its block of rows of the reference's. -/
theorem out_eq (X : Vec Ideal Cert.ReferenceIdeal.S4096x4096 .f32) (W : Vec Ideal S4096x8192 .f32) (c : Dev nD) :
    outVal (F := Ideal) (fun d => Layout.block ⟨2, ![4096, 128]⟩ ⟨2, ![4096, 4096]⟩ 1 32 d X) W c
      = Layout.block ⟨2, ![128, 8192]⟩ ⟨2, ![4096, 8192]⟩ 0 32 c
          (maximumf (Host.dotGeneral (F := Ideal) (φ₁ := .f32) (φ₂ := .f32) Cert.ReferenceIdeal.dot_S4096x4096_S4096x8192_S4096x8192_1_0_0_1_n_n none X W)
            (broadcastInDim Cert.ReferenceIdeal.S4096x8192 ![] Cert.ReferenceIdeal.Gen.bcast_S_S4096x8192
              (constant (F := Ideal) Cert.ReferenceIdeal.S_ .f32 0x00000000#32))) := by
  funext j
  obtain ⟨r, n, rfl⟩ : ∃ (r : Fin 128) (n : Fin 8192), j = ix2 r n := ⟨j 0, j 1, funext fun a => by
    match a with
    | ⟨0, _⟩ => rfl
    | ⟨1, _⟩ => rfl⟩
  have hc := val_lt c
  have hr := r.isLt
  refine congrArg₂ FloatOps.maximumf ?_ rfl
  have hi : Layout.Tiles.idx (S := ⟨2, ![128, 8192]⟩) (T := ⟨2, ![4096, 8192]⟩) (a := 0) (k := 32) (by decide) c (ix2 r n)
      = ix2 (⟨128 * c.val + r.val, by omega⟩ : Fin 4096) n := funext fun a => Fin.ext (by
    match a with
    | ⟨0, _⟩ => show c.val * 128 + r.val = 128 * c.val + r.val; omega
    | ⟨1, _⟩ => rfl)
  refine Eq.trans ?_ (congrArg _ hi.symm)
  rw [host_apply, ← sum_col c, acc_apply, Finset.sum_range]
  refine Finset.sum_congr rfl fun g _ => ?_
  rw [show Fin.ofNat 8 g.val = g from Fin.ext (Nat.mod_eq_of_lt g.isLt)]
  exact group_apply X W c g r n _ rfl

end Cert.Value

end
-- ==== Proof.lean ====
/-
# The certificate

The kernel's run is proved once, for any float values; read with floats as words it is the kernel's frame, read with
the ideal ones it is the idealization's frame and, with the value of the result, the algebraic claim against the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Lib.Quiescent

@[expose] public section

noncomputable section

namespace Cert.Proof

open Idealize.ShloMosaic Idealize.ShloMosaic.TcCoe Idealize.SL.Sem

/-- The kernel runs, its arguments end unchanged, and every semaphore ends at zero. -/
theorem frame_kernel : Cert.quiescent_Kernel := fun m ρ _ => Cert.Same.run_kernel (F := Bits) m ρ

/-- So does its idealization, -/
theorem frame_ideal : Cert.quiescent_KernelIdeal := fun m ρ _ => Cert.Final.run_frame (F := Ideal) m ρ

/-- and the reference. -/
theorem frame_reference : Cert.quiescent_ReferenceIdeal := fun m ρ _ =>
  (θ_run Cert.ReferenceIdeal.defs _ _).mono (fun r h => ⟨fun c => (h c).2, funext fun g => nomatch g.2⟩)
    (Cert.ReferenceIdeal.Value.run (F := Ideal) m ρ)

/-- Each device's result is its block of rows of the reference's. -/
theorem value : Cert.algebraic_KernelIdeal_ReferenceIdeal := fun m ρ m' ρ' _ hin => by
  have hx : (fun d : Dev Cert.KernelIdeal.nD => m ((d : Thread Cert.KernelIdeal.nD Cert.KernelIdeal.τ).loc Cert.KernelIdeal.main_arg0))
      = fun d => Layout.block ⟨2, ![4096, 128]⟩ ⟨2, ![4096, 4096]⟩ 1 32 d (m' (((0 : Dev Cert.ReferenceIdeal.nD) : Thread Cert.ReferenceIdeal.nD Cert.ReferenceIdeal.τ).loc Cert.ReferenceIdeal.main_arg0)) :=
    funext fun d => (hin d).1
  refine ⟨_, (θ_run Cert.KernelIdeal.defs _ _).mono (fun r h c => ⟨((h.1 c).1).trans ?_, (h.1 c).2⟩) (Cert.Final.run_result (F := Ideal) m ρ),
    (θ_run Cert.ReferenceIdeal.defs _ _).mono (fun _ h => h 0) (Cert.ReferenceIdeal.Value.run (F := Ideal) m' ρ')⟩
  rw [hx, (hin c).2]
  exact Cert.Value.out_eq _ _ c

theorem claim : Cert.Claim :=
  ⟨Cert.Kernel.Gen.facts, Cert.KernelIdeal.Gen.facts, Cert.ReferenceIdeal.Gen.facts,
    frame_kernel, frame_ideal, frame_reference, trivial, value⟩

end Cert.Proof

end
